-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gexp_normal [hPre_gexp_normal : Cert.Pre_gexp_normal.Facts] (m : (ℓ : Loc Cert.KernelIdeal.nD Cert.KernelIdeal.τ Cert.KernelIdeal.sig) → Buf (Elt Ideal) ℓ) : Prop :=
  ∀ c : Dev Cert.KernelIdeal.nD,
    (Cert.Pre_gexp_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gexp_normal [hPre_gexp_normal : Cert.Pre_gexp_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gexp_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_RotKernel (m : (ℓ : Loc Cert.RotKernel.nD Cert.RotKernel.τ Cert.RotKernel.sig) → Buf (Elt Bits) ℓ) : Prop :=
  True

def Pre_RotKernelIdeal (m : (ℓ : Loc Cert.RotKernelIdeal.nD Cert.RotKernelIdeal.τ Cert.RotKernelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gexp_normal [hKernelIdeal : Cert.KernelIdeal.Facts] [hPre_gexp_normal : Cert.Pre_gexp_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gexp_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gexp_normal [hReferenceIdeal : Cert.ReferenceIdeal.Facts] [hPre_gexp_normal : Cert.Pre_gexp_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gexp_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_RotKernel [hRotKernel : Cert.RotKernel.Facts] : Prop :=
  ∀ (m : (ℓ : Loc Cert.RotKernel.nD Cert.RotKernel.τ Cert.RotKernel.sig) → Buf (Elt Bits) ℓ) (g : Dev Cert.RotKernel.nD → PrngReg), Pre_RotKernel m →
    θ_run (Cert.RotKernel.defs (F := Bits)) (onTc (τ := Cert.RotKernel.τ) (Cert.RotKernel.main (F := Bits))) ⟨m, fun _ => 0, g⟩ (fun r => (∀ c : Dev Cert.RotKernel.nD,
      r.2.mem ((c.tc : Thread Cert.RotKernel.nD Cert.RotKernel.τ).loc Cert.RotKernel.main_arg0) = m ((c.tc : Thread Cert.RotKernel.nD Cert.RotKernel.τ).loc Cert.RotKernel.main_arg0)
      ∧ r.2.mem ((c.tc : Thread Cert.RotKernel.nD Cert.RotKernel.τ).loc Cert.RotKernel.main_arg1) = m ((c.tc : Thread Cert.RotKernel.nD Cert.RotKernel.τ).loc Cert.RotKernel.main_arg1))
      ∧ r.2.sem = fun _ => 0)

def quiescent_RotKernelIdeal [hRotKernelIdeal : Cert.RotKernelIdeal.Facts] : Prop :=
  ∀ (m : (ℓ : Loc Cert.RotKernelIdeal.nD Cert.RotKernelIdeal.τ Cert.RotKernelIdeal.sig) → Buf (Elt Ideal) ℓ) (g : Dev Cert.RotKernelIdeal.nD → PrngReg), Pre_RotKernelIdeal m →
    θ_run (Cert.RotKernelIdeal.defs (F := Ideal)) (onTc (τ := Cert.RotKernelIdeal.τ) (Cert.RotKernelIdeal.main (F := Ideal))) ⟨m, fun _ => 0, g⟩ (fun r => (∀ c : Dev Cert.RotKernelIdeal.nD,
      r.2.mem ((c.tc : Thread Cert.RotKernelIdeal.nD Cert.RotKernelIdeal.τ).loc Cert.RotKernelIdeal.main_arg0) = m ((c.tc : Thread Cert.RotKernelIdeal.nD Cert.RotKernelIdeal.τ).loc Cert.RotKernelIdeal.main_arg0)
      ∧ r.2.mem ((c.tc : Thread Cert.RotKernelIdeal.nD Cert.RotKernelIdeal.τ).loc Cert.RotKernelIdeal.main_arg1) = m ((c.tc : Thread Cert.RotKernelIdeal.nD Cert.RotKernelIdeal.τ).loc Cert.RotKernelIdeal.main_arg1))
      ∧ r.2.sem = fun _ => 0)

def preserves_Kernel_KernelIdeal : Prop :=
  True

def algebraic_KernelIdeal_ReferenceIdeal_pre_gexp_normal [hKernelIdeal : Cert.KernelIdeal.Facts] [hReferenceIdeal : Cert.ReferenceIdeal.Facts] [hPre_gexp_normal : Cert.Pre_gexp_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gexp_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_RotKernel_RotKernelIdeal : Prop :=
  True

def Claim : Prop :=
  ∃ (hKernel : Cert.Kernel.Facts) (hKernelIdeal : Cert.KernelIdeal.Facts) (hReferenceIdeal : Cert.ReferenceIdeal.Facts) (hRotKernel : Cert.RotKernel.Facts) (hRotKernelIdeal : Cert.RotKernelIdeal.Facts) (hPre_gexp_normal : Cert.Pre_gexp_normal.Facts),
    quiescent_Kernel (hKernel := hKernel)
    ∧ quiescent_KernelIdeal (hKernelIdeal := hKernelIdeal)
    ∧ quiescent_KernelIdeal_pre_gexp_normal (hKernelIdeal := hKernelIdeal) (hPre_gexp_normal := hPre_gexp_normal)
    ∧ quiescent_ReferenceIdeal (hReferenceIdeal := hReferenceIdeal)
    ∧ quiescent_ReferenceIdeal_pre_gexp_normal (hReferenceIdeal := hReferenceIdeal) (hPre_gexp_normal := hPre_gexp_normal)
    ∧ quiescent_RotKernel (hRotKernel := hRotKernel)
    ∧ quiescent_RotKernelIdeal (hRotKernelIdeal := hRotKernelIdeal)
    ∧ preserves_Kernel_KernelIdeal
    ∧ algebraic_KernelIdeal_ReferenceIdeal_pre_gexp_normal (hKernelIdeal := hKernelIdeal) (hReferenceIdeal := hReferenceIdeal) (hPre_gexp_normal := hPre_gexp_normal)
    ∧ preserves_RotKernel_RotKernelIdeal
-- ==== Pre_gexp_normal.lean ====
abbrev S3584x7168 : Shape := ⟨2, ![3584, 7168]⟩
abbrev S3584x112 : Shape := ⟨2, ![3584, 112]⟩
abbrev S14336x256 : Shape := ⟨2, ![14336, 256]⟩
abbrev S1x256 : Shape := ⟨2, ![1, 256]⟩
abbrev S3584 : Shape := ⟨1, ![3584]⟩
abbrev S_ : Shape := ⟨0, ![]⟩

class Facts : Prop where
  bcast_S_S3584x112 : S_.BroadcastsInDim S3584x112 (![] : Fin 0 → Fin S3584x112.rank)
  reducesTo_S3584x112_S_d0_1 : S3584x112.ReducesTo [0, 1] S_
  h_S_ : 0 < S_.numel

variable [Facts]

def fn {F : FTy → Type} [FloatOps F] (main_arg0 : IVec S3584x7168 8) (main_arg1 : IVec S3584x112 8) (main_arg2 : FVec F S14336x256 .fp8e4m3) (main_arg3 : FVec F S1x256 .f32) (main_arg4 : FVec F S1x256 .f32) (main_arg5 : FVec F S3584 .f32) : IVec S_ 1 :=
  let main_c : IVec S_ 8 := constantI S_ 8 126#8
  let main_v0 : IVec S3584x112 8 := broadcastInDim S3584x112 ![] bcast_S_S3584x112 main_c
  let main_v1 : IVec S3584x112 1 := cmpi .ule main_arg1 main_v0
  let main_c_0 : IVec S_ 1 := constantI S_ 1 1#1
  let main_v2 : IVec S_ 1 := (fun x v => Host.reduce IntOp.andi x v reducesTo_S3584x112_S_d0_1 h_S_) main_v1 main_c_0
  main_v2
-- ==== Kernel.lean ====
abbrev S3584x7168 : Shape := ⟨2, ![3584, 7168]⟩
abbrev S3584x112 : Shape := ⟨2, ![3584, 112]⟩
abbrev S14336x256 : Shape := ⟨2, ![14336, 256]⟩
abbrev S1x256 : Shape := ⟨2, ![1, 256]⟩
abbrev S3584 : Shape := ⟨1, ![3584]⟩
abbrev S1x3584 : Shape := ⟨2, ![1, 3584]⟩
abbrev S256x3584 : Shape := ⟨2, ![256, 3584]⟩
abbrev S512x7168 : Shape := ⟨2, ![512, 7168]⟩
abbrev S512x112 : Shape := ⟨2, ![512, 112]⟩
abbrev S1x512 : Shape := ⟨2, ![1, 512]⟩
abbrev S256x512 : Shape := ⟨2, ![256, 512]⟩
abbrev S512x128 : Shape := ⟨2, ![512, 128]⟩
abbrev S128x128 : Shape := ⟨2, ![128, 128]⟩
abbrev S512x1 : Shape := ⟨2, ![512, 1]⟩
abbrev S7168x256 : Shape := ⟨2, ![7168, 256]⟩
abbrev S512x256 : Shape := ⟨2, ![512, 256]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S3584x7168, .i8⟩
  | .hbm, ⟨1, _⟩ => ⟨S3584x112, .i8⟩
  | .hbm, ⟨2, _⟩ => ⟨S14336x256, .fp8e4m3⟩
  | .hbm, ⟨3, _⟩ => ⟨S1x256, .f32⟩
  | .hbm, ⟨4, _⟩ => ⟨S1x256, .f32⟩
  | .hbm, ⟨5, _⟩ => ⟨S3584, .f32⟩
  | .hbm, ⟨6, _⟩ => ⟨S1x3584, .f32⟩
  | .hbm, ⟨7, _⟩ => ⟨S256x3584, .bf16⟩
  | .local _ .vmem, ⟨0, _⟩ => ⟨S512x7168, .i8⟩
  | .local _ .vmem, ⟨1, _⟩ => ⟨S512x7168, .i8⟩
  | .local _ .vmem, ⟨2, _⟩ => ⟨S512x112, .i8⟩
  | .local _ .vmem, ⟨3, _⟩ => ⟨S512x112, .i8⟩
  | .local _ .vmem, ⟨4, _⟩ => ⟨S14336x256, .fp8e4m3⟩
  | .local _ .vmem, ⟨5, _⟩ => ⟨S1x256, .f32⟩
  | .local _ .vmem, ⟨6, _⟩ => ⟨S1x256, .f32⟩
  | .local _ .vmem, ⟨7, _⟩ => ⟨S1x512, .f32⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | .local _ .vmem, ⟨11, _⟩ => ⟨S512x7168, .fp8e4m3⟩
  | .local _ .vmem, ⟨12, _⟩ => ⟨S512x7168, .fp8e4m3⟩
  | .local _ .vmem, ⟨13, _⟩ => ⟨S512x128, .f32⟩
  | _, _ => ⟨S3584x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x112 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S14336x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3584x7168 : Shape := ⟨2, ![3584, 7168]⟩
abbrev S3584x112 : Shape := ⟨2, ![3584, 112]⟩
abbrev S14336x256 : Shape := ⟨2, ![14336, 256]⟩
abbrev S1x256 : Shape := ⟨2, ![1, 256]⟩
abbrev S3584 : Shape := ⟨1, ![3584]⟩
abbrev S_ : Shape := ⟨0, ![]⟩
abbrev S3584x56 : Shape := ⟨2, ![3584, 56]⟩
abbrev S3584x56x128 : Shape := ⟨3, ![3584, 56, 128]⟩
abbrev S3584x56x1 : Shape := ⟨3, ![3584, 56, 1]⟩
abbrev S1x3584 : Shape := ⟨2, ![1, 3584]⟩
abbrev S256x3584 : Shape := ⟨2, ![256, 3584]⟩
abbrev S7168x256 : Shape := ⟨2, ![7168, 256]⟩
abbrev S256 : Shape := ⟨1, ![256]⟩
abbrev S256x1 : Shape := ⟨2, ![256, 1]⟩

abbrev nBuf : Space → Nat
  | .hbm => 59
  | .vmem => 7
  | .smem => 0
  | _ => 0

abbrev bufTy : (tb : Table) → Fin (tcTables nBuf tb) → BufTy
  | .hbm, ⟨0, _⟩ => ⟨S3584x7168, .i8⟩
  | .hbm, ⟨1, _⟩ => ⟨S3584x112, .i8⟩
  | .hbm, ⟨2, _⟩ => ⟨S14336x256, .fp8e4m3⟩
  | .hbm, ⟨3, _⟩ => ⟨S1x256, .f32⟩
  | .hbm, ⟨4, _⟩ => ⟨S1x256, .f32⟩
  | .hbm, ⟨5, _⟩ => ⟨S3584, .f32⟩
  | .hbm, ⟨6, _⟩ => ⟨S3584x7168, .i32⟩
  | .hbm, ⟨7, _⟩ => ⟨S3584x112, .i32⟩
  | .hbm, ⟨8, _⟩ => ⟨S_, .i32⟩
  | .hbm, ⟨9, _⟩ => ⟨S3584x7168, .i32⟩
  | .hbm, ⟨10, _⟩ => ⟨S3584x7168, .i32⟩
  | .hbm, ⟨11, _⟩ => ⟨S_, .i32⟩
  | .hbm, ⟨12, _⟩ => ⟨S3584x7168, .i32⟩
  | .hbm, ⟨13, _⟩ => ⟨S3584x7168, .i1⟩
  | .hbm, ⟨14, _⟩ => ⟨S_, .i32⟩
  | .hbm, ⟨15, _⟩ => ⟨S3584x7168, .i32⟩
  | .hbm, ⟨16, _⟩ => ⟨S3584x7168, .i32⟩
  | .hbm, ⟨17, _⟩ => ⟨S3584x7168, .i32⟩
  | .hbm, ⟨18, _⟩ => ⟨S3584x56, .i32⟩
  | .hbm, ⟨19, _⟩ => ⟨S3584x56, .i32⟩
  | .hbm, ⟨20, _⟩ => ⟨S3584x56, .f32⟩
  | .hbm, ⟨21, _⟩ => ⟨S_, .f32⟩
  | .hbm, ⟨22, _⟩ => ⟨S3584x56, .f32⟩
  | .hbm, ⟨23, _⟩ => ⟨S3584x56, .f32⟩
  | .hbm, ⟨24, _⟩ => ⟨S3584x56, .bf16⟩
  | .hbm, ⟨25, _⟩ => ⟨S3584x7168, .bf16⟩
  | .hbm, ⟨26, _⟩ => ⟨S3584x56x128, .bf16⟩
  | .hbm, ⟨27, _⟩ => ⟨S3584x56x1, .bf16⟩
  | .hbm, ⟨28, _⟩ => ⟨S3584x56x128, .bf16⟩
  | .hbm, ⟨29, _⟩ => ⟨S3584x56x128, .bf16⟩
  | .hbm, ⟨30, _⟩ => ⟨S3584x7168, .bf16⟩
  | .hbm, ⟨31, _⟩ => ⟨S_, .i32⟩
  | .hbm, ⟨32, _⟩ => ⟨S3584x7168, .i32⟩
  | .hbm, ⟨33, _⟩ => ⟨S3584x7168, .i32⟩
  | .hbm, ⟨34, _⟩ => ⟨S_, .i32⟩
  | .hbm, ⟨35, _⟩ => ⟨S3584x7168, .i32⟩
  | .hbm, ⟨36, _⟩ => ⟨S3584x7168, .i32⟩
  | .hbm, ⟨37, _⟩ => ⟨S_, .i32⟩
  | .hbm, ⟨38, _⟩ => ⟨S3584x7168, .i32⟩
  | .hbm, ⟨39, _⟩ => ⟨S3584x7168, .i1⟩
  | .hbm, ⟨40, _⟩ => ⟨S_, .i32⟩
  | .hbm, ⟨41, _⟩ => ⟨S3584x7168, .i32⟩
  | .hbm, ⟨42, _⟩ => ⟨S3584x7168, .i32⟩
  | .hbm, ⟨43, _⟩ => ⟨S3584x7168, .i32⟩
  | .hbm, ⟨44, _⟩ => ⟨S3584x56, .i32⟩
  | .hbm, ⟨45, _⟩ => ⟨S3584x56, .i32⟩
  | .hbm, ⟨46, _⟩ => ⟨S3584x56, .f32⟩
  | .hbm, ⟨47, _⟩ => ⟨S_, .f32⟩
  | .hbm, ⟨48, _⟩ => ⟨S3584x56, .f32⟩
  | .hbm, ⟨49, _⟩ => ⟨S3584x56, .f32⟩
  | .hbm, ⟨50, _⟩ => ⟨S3584x56, .bf16⟩
  | .hbm, ⟨51, _⟩ => ⟨S3584x7168, .bf16⟩
  | .hbm, ⟨52, _⟩ => ⟨S3584x56x128, .bf16⟩
  | .hbm, ⟨53, _⟩ => ⟨S3584x56x1, .bf16⟩
  | .hbm, ⟨54, _⟩ => ⟨S3584x56x128, .bf16⟩
  | .hbm, ⟨55, _⟩ => ⟨S3584x56x128, .bf16⟩
  | .hbm, ⟨56, _⟩ => ⟨S3584x7168, .bf16⟩
  | .hbm, ⟨57, _⟩ => ⟨S1x3584, .f32⟩
  | .hbm, ⟨58, _⟩ => ⟨S256x3584, .bf16⟩
  | .local _ .vmem, ⟨0, _⟩ => ⟨S3584x7168, .bf16⟩
  | .local _ .vmem, ⟨1, _⟩ => ⟨S3584x7168, .bf16⟩
  | .local _ .vmem, ⟨2, _⟩ => ⟨S14336x256, .fp8e4m3⟩
  | .local _ .vmem, ⟨3, _⟩ => ⟨S1x256, .f32⟩
  | .local _ .vmem, ⟨4, _⟩ => ⟨S1x256, .f32⟩
  | .local _ .vmem, ⟨5, _⟩ => ⟨S1x3584, .f32⟩
  | .local _ .vmem, ⟨6, _⟩ => ⟨S256x3584, .bf16⟩
  | _, _ => ⟨S3584x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3584x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RotKernel.lean ====
abbrev S1x256x14336 : Shape := ⟨3, ![1, 256, 14336]⟩
abbrev S28x28 : Shape := ⟨2, ![28, 28]⟩
abbrev S256x14336 : Shape := ⟨2, ![256, 14336]⟩
abbrev S14336x256 : Shape := ⟨2, ![14336, 256]⟩
abbrev S1x256 : Shape := ⟨2, ![1, 256]⟩
abbrev S8x448x256 : Shape := ⟨3, ![8, 448, 256]⟩
abbrev S32x448x256 : Shape := ⟨3, ![32, 448, 256]⟩
abbrev S3x448x448 : Shape := ⟨3, ![3, 448, 448]⟩
abbrev S4 : Shape := ⟨1, ![4]⟩
abbrev S1 : Shape := ⟨1, ![1]⟩
abbrev S_ : Shape := ⟨0, ![]⟩
abbrev S256x128 : Shape := ⟨2, ![256, 128]⟩
abbrev S448x28 : Shape := ⟨2, ![448, 28]⟩
abbrev S448x448 : Shape := ⟨2, ![448, 448]⟩
abbrev S1x448x448 : Shape := ⟨3, ![1, 448, 448]⟩
abbrev S1x28x28 : Shape := ⟨3, ![1, 28, 28]⟩
abbrev S1x1x1 : Shape := ⟨3, ![1, 1, 1]⟩
abbrev S128x256 : Shape := ⟨2, ![128, 256]⟩
abbrev S16x256 : Shape := ⟨2, ![16, 256]⟩
abbrev S1x16x256 : Shape := ⟨3, ![1, 16, 256]⟩
abbrev S1x448x256 : Shape := ⟨3, ![1, 448, 256]⟩
abbrev S448x256 : Shape := ⟨2, ![448, 256]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S1x256x14336, .bf16⟩
  | .hbm, ⟨1, _⟩ => ⟨S28x28, .f32⟩
  | .hbm, ⟨2, _⟩ => ⟨S256x14336, .bf16⟩
  | .hbm, ⟨3, _⟩ => ⟨S256x14336, .i8⟩
  | .hbm, ⟨4, _⟩ => ⟨S14336x256, .fp8e4m3⟩
  | .hbm, ⟨5, _⟩ => ⟨S1x256, .f32⟩
  | .hbm, ⟨6, _⟩ => ⟨S1x256, .f32⟩
  | .local _ .vmem, ⟨0, _⟩ => ⟨S28x28, .f32⟩
  | .local _ .vmem, ⟨1, _⟩ => ⟨S256x14336, .i8⟩
  | .local _ .vmem, ⟨2, _⟩ => ⟨S14336x256, .fp8e4m3⟩
  | .local _ .vmem, ⟨3, _⟩ => ⟨S1x256, .f32⟩
  | .local _ .vmem, ⟨4, _⟩ => ⟨S1x256, .f32⟩
  | .local _ .vmem, ⟨5, _⟩ => ⟨S256x14336, .bf16⟩
  | .local _ .vmem, ⟨6, _⟩ => ⟨S8x448x256, .bf16⟩
  | .local _ .vmem, ⟨7, _⟩ => ⟨S32x448x256, .f32⟩
  | .local _ .vmem, ⟨8, _⟩ => ⟨S3x448x448, .bf16⟩
  | _, _ => ⟨S1x256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_4120 : BitVec 32 := 0#32
  let c56_i32 : BitVec 32 := 56#32
  let v5097 : BitVec 32 := Scalar.addi c0_i32_4120 c56_i32
  let c1_i32_4121 : BitVec 32 := 1#32
  ⟨c0_i32_4120, v5097, c1_i32_4121⟩
def k0_off1 (k0_t1 : Fin k0_t1_loop.trips) : Fin 3 → Nat :=
  let c0_4139 : Index := 0#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5127 : Index := Scalar.indexCast v5126
  let c0_4140 : Index := 0#32
  ![0, v5127.toNat, 0]
def k0_off2 (k0_t1 : Fin k0_t1_loop.trips) : Fin 3 → Nat :=
  let c1_4141 : Index := 1#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5130 : Index := Scalar.indexCast v5126
  let c0_4142 : Index := 0#32
  ![1, v5130.toNat, 0]
def k0_off3 (k0_t1 : Fin k0_t1_loop.trips) : Fin 3 → Nat :=
  let c2_4143 : Index := 2#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5133 : Index := Scalar.indexCast v5126
  let c0_4144 : Index := 0#32
  ![2, v5133.toNat, 0]
def k0_off4 (k0_t1 : Fin k0_t1_loop.trips) : Fin 3 → Nat :=
  let c3_4145 : Index := 3#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5136 : Index := Scalar.indexCast v5126
  let c0_4146 : Index := 0#32
  ![3, v5136.toNat, 0]
def k0_off5 (k0_t1 : Fin k0_t1_loop.trips) : Fin 3 → Nat :=
  let c4_4147 : Index := 4#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5139 : Index := Scalar.indexCast v5126
  let c0_4148 : Index := 0#32
  ![4, v5139.toNat, 0]
def k0_off6 (k0_t1 : Fin k0_t1_loop.trips) : Fin 3 → Nat :=
  let c5_4149 : Index := 5#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5142 : Index := Scalar.indexCast v5126
  let c0_4150 : Index := 0#32
  ![5, v5142.toNat, 0]
def k0_off7 (k0_t1 : Fin k0_t1_loop.trips) : Fin 3 → Nat :=
  let c6_4151 : Index := 6#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5145 : Index := Scalar.indexCast v5126
  let c0_4152 : Index := 0#32
  ![6, v5145.toNat, 0]
def k0_off8 (k0_t1 : Fin k0_t1_loop.trips) : Fin 3 → Nat :=
  let c7_4153 : Index := 7#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5148 : Index := Scalar.indexCast v5126
  let c0_4154 : Index := 0#32
  ![7, v5148.toNat, 0]
def k0_off9 (k0_t1 : Fin k0_t1_loop.trips) : Fin 3 → Nat :=
  let c8_4155 : Index := 8#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5151 : Index := Scalar.indexCast v5126
  let c0_4156 : Index := 0#32
  ![8, v5151.toNat, 0]
def k0_off10 (k0_t1 : Fin k0_t1_loop.trips) : Fin 3 → Nat :=
  let c9_4157 : Index := 9#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5154 : Index := Scalar.indexCast v5126
  let c0_4158 : Index := 0#32
  ![9, v5154.toNat, 0]
def k0_off11 (k0_t1 : Fin k0_t1_loop.trips) : Fin 3 → Nat :=
  let c10_4159 : Index := 10#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5157 : Index := Scalar.indexCast v5126
  let c0_4160 : Index := 0#32
  ![10, v5157.toNat, 0]
def k0_off12 (k0_t1 : Fin k0_t1_loop.trips) : Fin 3 → Nat :=
  let c11_4161 : Index := 11#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5160 : Index := Scalar.indexCast v5126
  let c0_4162 : Index := 0#32
  ![11, v5160.toNat, 0]
def k0_off13 (k0_t1 : Fin k0_t1_loop.trips) : Fin 3 → Nat :=
  let c12_4163 : Index := 12#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5163 : Index := Scalar.indexCast v5126
  let c0_4164 : Index := 0#32
  ![12, v5163.toNat, 0]
def k0_off14 (k0_t1 : Fin k0_t1_loop.trips) : Fin 3 → Nat :=
  let c13_4165 : Index := 13#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5166 : Index := Scalar.indexCast v5126
  let c0_4166 : Index := 0#32
  ![13, v5166.toNat, 0]
def k0_off15 (k0_t1 : Fin k0_t1_loop.trips) : Fin 3 → Nat :=
  let c14_4167 : Index := 14#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5169 : Index := Scalar.indexCast v5126
  let c0_4168 : Index := 0#32
  ![14, v5169.toNat, 0]
def k0_off16 (k0_t1 : Fin k0_t1_loop.trips) : Fin 3 → Nat :=
  let c15_4169 : Index := 15#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5172 : Index := Scalar.indexCast v5126
  let c0_4170 : Index := 0#32
  ![15, v5172.toNat, 0]
def k0_off17 (k0_t1 : Fin k0_t1_loop.trips) : Fin 3 → Nat :=
  let c16_4171 : Index := 16#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5175 : Index := Scalar.indexCast v5126
  let c0_4172 : Index := 0#32
  ![16, v5175.toNat, 0]
def k0_off18 (k0_t1 : Fin k0_t1_loop.trips) : Fin 3 → Nat :=
  let c17_4173 : Index := 17#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5178 : Index := Scalar.indexCast v5126
  let c0_4174 : Index := 0#32
  ![17, v5178.toNat, 0]
def k0_off19 (k0_t1 : Fin k0_t1_loop.trips) : Fin 3 → Nat :=
  let c18_4175 : Index := 18#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5181 : Index := Scalar.indexCast v5126
  let c0_4176 : Index := 0#32
  ![18, v5181.toNat, 0]
def k0_off20 (k0_t1 : Fin k0_t1_loop.trips) : Fin 3 → Nat :=
  let c19_4177 : Index := 19#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5184 : Index := Scalar.indexCast v5126
  let c0_4178 : Index := 0#32
  ![19, v5184.toNat, 0]
def k0_off21 (k0_t1 : Fin k0_t1_loop.trips) : Fin 3 → Nat :=
  let c20_4179 : Index := 20#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5187 : Index := Scalar.indexCast v5126
  let c0_4180 : Index := 0#32
  ![20, v5187.toNat, 0]
def k0_off22 (k0_t1 : Fin k0_t1_loop.trips) : Fin 3 → Nat :=
  let c21_4181 : Index := 21#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5190 : Index := Scalar.indexCast v5126
  let c0_4182 : Index := 0#32
  ![21, v5190.toNat, 0]
def k0_off23 (k0_t1 : Fin k0_t1_loop.trips) : Fin 3 → Nat :=
  let c22_4183 : Index := 22#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5193 : Index := Scalar.indexCast v5126
  let c0_4184 : Index := 0#32
  ![22, v5193.toNat, 0]
def k0_off24 (k0_t1 : Fin k0_t1_loop.trips) : Fin 3 → Nat :=
  let c23_4185 : Index := 23#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5196 : Index := Scalar.indexCast v5126
  let c0_4186 : Index := 0#32
  ![23, v5196.toNat, 0]
def k0_off25 (k0_t1 : Fin k0_t1_loop.trips) : Fin 3 → Nat :=
  let c24_4187 : Index := 24#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5199 : Index := Scalar.indexCast v5126
  let c0_4188 : Index := 0#32
  ![24, v5199.toNat, 0]
def k0_off26 (k0_t1 : Fin k0_t1_loop.trips) : Fin 3 → Nat :=
  let c25_4189 : Index := 25#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5202 : Index := Scalar.indexCast v5126
  let c0_4190 : Index := 0#32
  ![25, v5202.toNat, 0]
def k0_off27 (k0_t1 : Fin k0_t1_loop.trips) : Fin 3 → Nat :=
  let c26_4191 : Index := 26#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5205 : Index := Scalar.indexCast v5126
  let c0_4192 : Index := 0#32
  ![26, v5205.toNat, 0]
def k0_off28 (k0_t1 : Fin k0_t1_loop.trips) : Fin 3 → Nat :=
  let c27_4193 : Index := 27#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5208 : Index := Scalar.indexCast v5126
  let c0_4194 : Index := 0#32
  ![27, v5208.toNat, 0]
def k0_off29 (k0_t1 : Fin k0_t1_loop.trips) : Fin 3 → Nat :=
  let c28_4195 : Index := 28#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5211 : Index := Scalar.indexCast v5126
  let c0_4196 : Index := 0#32
  ![28, v5211.toNat, 0]
def k0_off30 (k0_t1 : Fin k0_t1_loop.trips) : Fin 3 → Nat :=
  let c29_4197 : Index := 29#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5214 : Index := Scalar.indexCast v5126
  let c0_4198 : Index := 0#32
  ![29, v5214.toNat, 0]
def k0_off31 (k0_t1 : Fin k0_t1_loop.trips) : Fin 3 → Nat :=
  let c30_4199 : Index := 30#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5217 : Index := Scalar.indexCast v5126
  let c0_4200 : Index := 0#32
  ![30, v5217.toNat, 0]
def k0_off32 (k0_t1 : Fin k0_t1_loop.trips) : Fin 3 → Nat :=
  let c31_4201 : Index := 31#32
  let c0_i32_4120 : BitVec 32 := 0#32
  let c1_i32_4121 : BitVec 32 := 1#32
  let arg11 : BitVec 32 := Scf.iv c0_i32_4120 c1_i32_4121 k0_t1
  let c8_i32 : BitVec 32 := 8#32
  let v5126 : BitVec 32 := Scalar.muli arg11 c8_i32
  let v5220 : Index := Scalar.indexCast v5126
  let c0_4202 : Index := 0#32
  ![31, v5220.toNat, 0]
def k0_off33 (k0_t1 : Fin k0_t1_loop.trips) : Fin 3 → Nat :=
  let c0_4268 : Index := 0#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5576 : Index := Scalar.indexCast v5575
  let c128_4269 : Index := 128#32
  ![0, v5576.toNat, 128]
def k0_off34 (k0_t1 : Fin k0_t1_loop.trips) : Fin 3 → Nat :=
  let c1_4270 : Index := 1#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5579 : Index := Scalar.indexCast v5575
  let c128_4271 : Index := 128#32
  ![1, v5579.toNat, 128]
def k0_off35 (k0_t1 : Fin k0_t1_loop.trips) : Fin 3 → Nat :=
  let c2_4272 : Index := 2#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5582 : Index := Scalar.indexCast v5575
  let c128_4273 : Index := 128#32
  ![2, v5582.toNat, 128]
def k0_off36 (k0_t1 : Fin k0_t1_loop.trips) : Fin 3 → Nat :=
  let c3_4274 : Index := 3#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5585 : Index := Scalar.indexCast v5575
  let c128_4275 : Index := 128#32
  ![3, v5585.toNat, 128]
def k0_off37 (k0_t1 : Fin k0_t1_loop.trips) : Fin 3 → Nat :=
  let c4_4276 : Index := 4#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5588 : Index := Scalar.indexCast v5575
  let c128_4277 : Index := 128#32
  ![4, v5588.toNat, 128]
def k0_off38 (k0_t1 : Fin k0_t1_loop.trips) : Fin 3 → Nat :=
  let c5_4278 : Index := 5#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5591 : Index := Scalar.indexCast v5575
  let c128_4279 : Index := 128#32
  ![5, v5591.toNat, 128]
def k0_off39 (k0_t1 : Fin k0_t1_loop.trips) : Fin 3 → Nat :=
  let c6_4280 : Index := 6#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5594 : Index := Scalar.indexCast v5575
  let c128_4281 : Index := 128#32
  ![6, v5594.toNat, 128]
def k0_off40 (k0_t1 : Fin k0_t1_loop.trips) : Fin 3 → Nat :=
  let c7_4282 : Index := 7#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5597 : Index := Scalar.indexCast v5575
  let c128_4283 : Index := 128#32
  ![7, v5597.toNat, 128]
def k0_off41 (k0_t1 : Fin k0_t1_loop.trips) : Fin 3 → Nat :=
  let c8_4284 : Index := 8#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5600 : Index := Scalar.indexCast v5575
  let c128_4285 : Index := 128#32
  ![8, v5600.toNat, 128]
def k0_off42 (k0_t1 : Fin k0_t1_loop.trips) : Fin 3 → Nat :=
  let c9_4286 : Index := 9#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5603 : Index := Scalar.indexCast v5575
  let c128_4287 : Index := 128#32
  ![9, v5603.toNat, 128]
def k0_off43 (k0_t1 : Fin k0_t1_loop.trips) : Fin 3 → Nat :=
  let c10_4288 : Index := 10#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5606 : Index := Scalar.indexCast v5575
  let c128_4289 : Index := 128#32
  ![10, v5606.toNat, 128]
def k0_off44 (k0_t1 : Fin k0_t1_loop.trips) : Fin 3 → Nat :=
  let c11_4290 : Index := 11#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5609 : Index := Scalar.indexCast v5575
  let c128_4291 : Index := 128#32
  ![11, v5609.toNat, 128]
def k0_off45 (k0_t1 : Fin k0_t1_loop.trips) : Fin 3 → Nat :=
  let c12_4292 : Index := 12#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5612 : Index := Scalar.indexCast v5575
  let c128_4293 : Index := 128#32
  ![12, v5612.toNat, 128]
def k0_off46 (k0_t1 : Fin k0_t1_loop.trips) : Fin 3 → Nat :=
  let c13_4294 : Index := 13#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5615 : Index := Scalar.indexCast v5575
  let c128_4295 : Index := 128#32
  ![13, v5615.toNat, 128]
def k0_off47 (k0_t1 : Fin k0_t1_loop.trips) : Fin 3 → Nat :=
  let c14_4296 : Index := 14#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5618 : Index := Scalar.indexCast v5575
  let c128_4297 : Index := 128#32
  ![14, v5618.toNat, 128]
def k0_off48 (k0_t1 : Fin k0_t1_loop.trips) : Fin 3 → Nat :=
  let c15_4298 : Index := 15#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5621 : Index := Scalar.indexCast v5575
  let c128_4299 : Index := 128#32
  ![15, v5621.toNat, 128]
def k0_off49 (k0_t1 : Fin k0_t1_loop.trips) : Fin 3 → Nat :=
  let c16_4300 : Index := 16#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5624 : Index := Scalar.indexCast v5575
  let c128_4301 : Index := 128#32
  ![16, v5624.toNat, 128]
def k0_off50 (k0_t1 : Fin k0_t1_loop.trips) : Fin 3 → Nat :=
  let c17_4302 : Index := 17#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5627 : Index := Scalar.indexCast v5575
  let c128_4303 : Index := 128#32
  ![17, v5627.toNat, 128]
def k0_off51 (k0_t1 : Fin k0_t1_loop.trips) : Fin 3 → Nat :=
  let c18_4304 : Index := 18#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5630 : Index := Scalar.indexCast v5575
  let c128_4305 : Index := 128#32
  ![18, v5630.toNat, 128]
def k0_off52 (k0_t1 : Fin k0_t1_loop.trips) : Fin 3 → Nat :=
  let c19_4306 : Index := 19#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5633 : Index := Scalar.indexCast v5575
  let c128_4307 : Index := 128#32
  ![19, v5633.toNat, 128]
def k0_off53 (k0_t1 : Fin k0_t1_loop.trips) : Fin 3 → Nat :=
  let c20_4308 : Index := 20#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5636 : Index := Scalar.indexCast v5575
  let c128_4309 : Index := 128#32
  ![20, v5636.toNat, 128]
def k0_off54 (k0_t1 : Fin k0_t1_loop.trips) : Fin 3 → Nat :=
  let c21_4310 : Index := 21#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5639 : Index := Scalar.indexCast v5575
  let c128_4311 : Index := 128#32
  ![21, v5639.toNat, 128]
def k0_off55 (k0_t1 : Fin k0_t1_loop.trips) : Fin 3 → Nat :=
  let c22_4312 : Index := 22#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5642 : Index := Scalar.indexCast v5575
  let c128_4313 : Index := 128#32
  ![22, v5642.toNat, 128]
def k0_off56 (k0_t1 : Fin k0_t1_loop.trips) : Fin 3 → Nat :=
  let c23_4314 : Index := 23#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5645 : Index := Scalar.indexCast v5575
  let c128_4315 : Index := 128#32
  ![23, v5645.toNat, 128]
def k0_off57 (k0_t1 : Fin k0_t1_loop.trips) : Fin 3 → Nat :=
  let c24_4316 : Index := 24#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5648 : Index := Scalar.indexCast v5575
  let c128_4317 : Index := 128#32
  ![24, v5648.toNat, 128]
def k0_off58 (k0_t1 : Fin k0_t1_loop.trips) : Fin 3 → Nat :=
  let c25_4318 : Index := 25#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5651 : Index := Scalar.indexCast v5575
  let c128_4319 : Index := 128#32
  ![25, v5651.toNat, 128]
def k0_off59 (k0_t1 : Fin k0_t1_loop.trips) : Fin 3 → Nat :=
  let c26_4320 : Index := 26#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5654 : Index := Scalar.indexCast v5575
  let c128_4321 : Index := 128#32
  ![26, v5654.toNat, 128]
def k0_off60 (k0_t1 : Fin k0_t1_loop.trips) : Fin 3 → Nat :=
  let c27_4322 : Index := 27#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5657 : Index := Scalar.indexCast v5575
  let c128_4323 : Index := 128#32
  ![27, v5657.toNat, 128]
def k0_off61 (k0_t1 : Fin k0_t1_loop.trips) : Fin 3 → Nat :=
  let c28_4324 : Index := 28#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5660 : Index := Scalar.indexCast v5575
  let c128_4325 : Index := 128#32
  ![28, v5660.toNat, 128]
def k0_off62 (k0_t1 : Fin k0_t1_loop.trips) : Fin 3 → Nat :=
  let c29_4326 : Index := 29#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5663 : Index := Scalar.indexCast v5575
  let c128_4327 : Index := 128#32
  ![29, v5663.toNat, 128]
def k0_off63 (k0_t1 : Fin k0_t1_loop.trips) : Fin 3 → Nat :=
  let c30_4328 : Index := 30#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5666 : Index := Scalar.indexCast v5575
  let c128_4329 : Index := 128#32
  ![30, v5666.toNat, 128]
def k0_off64 (k0_t1 : Fin k0_t1_loop.trips) : Fin 3 → Nat :=
  let c31_4330 : Index := 31#32
  let c0_i32_4120 : BitVec 32 := 0#32
  let c1_i32_4121 : BitVec 32 := 1#32
  let arg11 : BitVec 32 := Scf.iv c0_i32_4120 c1_i32_4121 k0_t1
  let c8_i32_4267 : BitVec 32 := 8#32
  let v5575 : BitVec 32 := Scalar.muli arg11 c8_i32_4267
  let v5669 : Index := Scalar.indexCast v5575
  let c128_4331 : Index := 128#32
  ![31, v5669.toNat, 128]
@[reducible] def k0_t2_loop : Scf.Loop 32 :=
  let c0_i32_4136 : BitVec 32 := 0#32
  let c28_i32 : BitVec 32 := 28#32
  let v5125 : BitVec 32 := Scalar.addi c0_i32_4136 c28_i32
  let c1_i32_4137 : BitVec 32 := 1#32
  ⟨c0_i32_4136, v5125, c1_i32_4137⟩
def k0_off65 (k0_t2 : Fin k0_t2_loop.trips) : Fin 3 → Nat :=
  let c0_4140 : Index := 0#32
  let c0_i32_4136 : BitVec 32 := 0#32
  let c1_i32_4137 : BitVec 32 := 1#32
  let arg11 : BitVec 32 := Scf.iv c0_i32_4136 c1_i32_4137 k0_t2
  let c16_i32_4139 : BitVec 32 := 16#32
  let v5126 : BitVec 32 := Scalar.muli arg11 c16_i32_4139
  let v5127 : Index := Scalar.indexCast v5126
  let c0_4141 : Index := 0#32
  ![0, v5127.toNat, 0]
def k0_off66 (k0_t2 : Fin k0_t2_loop.trips) : Fin 3 → Nat :=
  let c1_4146 : Index := 1#32
  let c0_i32_4136 : BitVec 32 := 0#32
  let c1_i32_4137 : BitVec 32 := 1#32
  let arg11 : BitVec 32 := Scf.iv c0_i32_4136 c1_i32_4137 k0_t2
  let c16_i32_4145 : BitVec 32 := 16#32
  let v5141 : BitVec 32 := Scalar.muli arg11 c16_i32_4145
  let v5142 : Index := Scalar.indexCast v5141
  let c0_4147 : Index := 0#32
  ![1, v5142.toNat, 0]
def k0_off67 (k0_t2 : Fin k0_t2_loop.trips) : Fin 3 → Nat :=
  let c2_4152 : Index := 2#32
  let c0_i32_4136 : BitVec 32 := 0#32
  let c1_i32_4137 : BitVec 32 := 1#32
  let arg11 : BitVec 32 := Scf.iv c0_i32_4136 c1_i32_4137 k0_t2
  let c16_i32_4151 : BitVec 32 := 16#32
  let v5156 : BitVec 32 := Scalar.muli arg11 c16_i32_4151
  let v5157 : Index := Scalar.indexCast v5156
  let c0_4153 : Index := 0#32
  ![2, v5157.toNat, 0]
def k0_off68 (k0_t2 : Fin k0_t2_loop.trips) : Fin 3 → Nat :=
  let c3_4158 : Index := 3#32
  let c0_i32_4136 : BitVec 32 := 0#32
  let c1_i32_4137 : BitVec 32 := 1#32
  let arg11 : BitVec 32 := Scf.iv c0_i32_4136 c1_i32_4137 k0_t2
  let c16_i32_4157 : BitVec 32 := 16#32
  let v5171 : BitVec 32 := Scalar.muli arg11 c16_i32_4157
  let v5172 : Index := Scalar.indexCast v5171
  let c0_4159 : Index := 0#32
  ![3, v5172.toNat, 0]
def k0_off69 (k0_t2 : Fin k0_t2_loop.trips) : Fin 3 → Nat :=
  let c4_4164 : Index := 4#32
  let c0_i32_4136 : BitVec 32 := 0#32
  let c1_i32_4137 : BitVec 32 := 1#32
  let arg11 : BitVec 32 := Scf.iv c0_i32_4136 c1_i32_4137 k0_t2
  let c16_i32_4163 : BitVec 32 := 16#32
  let v5186 : BitVec 32 := Scalar.muli arg11 c16_i32_4163
  let v5187 : Index := Scalar.indexCast v5186
  let c0_4165 : Index := 0#32
  ![4, v5187.toNat, 0]
def k0_off70 (k0_t2 : Fin k0_t2_loop.trips) : Fin 3 → Nat :=
  let c5_4170 : Index := 5#32
  let c0_i32_4136 : BitVec 32 := 0#32
  let c1_i32_4137 : BitVec 32 := 1#32
  let arg11 : BitVec 32 := Scf.iv c0_i32_4136 c1_i32_4137 k0_t2
  let c16_i32_4169 : BitVec 32 := 16#32
  let v5201 : BitVec 32 := Scalar.muli arg11 c16_i32_4169
  let v5202 : Index := Scalar.indexCast v5201
  let c0_4171 : Index := 0#32
  ![5, v5202.toNat, 0]
def k0_off71 (k0_t2 : Fin k0_t2_loop.trips) : Fin 3 → Nat :=
  let c6_4176 : Index := 6#32
  let c0_i32_4136 : BitVec 32 := 0#32
  let c1_i32_4137 : BitVec 32 := 1#32
  let arg11 : BitVec 32 := Scf.iv c0_i32_4136 c1_i32_4137 k0_t2
  let c16_i32_4175 : BitVec 32 := 16#32
  let v5216 : BitVec 32 := Scalar.muli arg11 c16_i32_4175
  let v5217 : Index := Scalar.indexCast v5216
  let c0_4177 : Index := 0#32
  ![6, v5217.toNat, 0]
def k0_off72 (k0_t2 : Fin k0_t2_loop.trips) : Fin 3 → Nat :=
  let c7_4182 : Index := 7#32
  let c0_i32_4136 : BitVec 32 := 0#32
  let c1_i32_4137 : BitVec 32 := 1#32
  let arg11 : BitVec 32 := Scf.iv c0_i32_4136 c1_i32_4137 k0_t2
  let c16_i32_4181 : BitVec 32 := 16#32
  let v5231 : BitVec 32 := Scalar.muli arg11 c16_i32_4181
  let v5232 : Index := Scalar.indexCast v5231
  let c0_4183 : Index := 0#32
  ![7, v5232.toNat, 0]
def k0_off73 (k0_t2 : Fin k0_t2_loop.trips) : Fin 3 → Nat :=
  let c8_4188 : Index := 8#32
  let c0_i32_4136 : BitVec 32 := 0#32
  let c1_i32_4137 : BitVec 32 := 1#32
  let arg11 : BitVec 32 := Scf.iv c0_i32_4136 c1_i32_4137 k0_t2
  let c16_i32_4187 : BitVec 32 := 16#32
  let v5246 : BitVec 32 := Scalar.muli arg11 c16_i32_4187
  let v5247 : Index := Scalar.indexCast v5246
  let c0_4189 : Index := 0#32
  ![8, v5247.toNat, 0]
def k0_off74 (k0_t2 : Fin k0_t2_loop.trips) : Fin 3 → Nat :=
  let c9_4194 : Index := 9#32
  let c0_i32_4136 : BitVec 32 := 0#32
  let c1_i32_4137 : BitVec 32 := 1#32
  let arg11 : BitVec 32 := Scf.iv c0_i32_4136 c1_i32_4137 k0_t2
  let c16_i32_4193 : BitVec 32 := 16#32
  let v5261 : BitVec 32 := Scalar.muli arg11 c16_i32_4193
  let v5262 : Index := Scalar.indexCast v5261
  let c0_4195 : Index := 0#32
  ![9, v5262.toNat, 0]
def k0_off75 (k0_t2 : Fin k0_t2_loop.trips) : Fin 3 → Nat :=
  let c10_4200 : Index := 10#32
  let c0_i32_4136 : BitVec 32 := 0#32
  let c1_i32_4137 : BitVec 32 := 1#32
  let arg11 : BitVec 32 := Scf.iv c0_i32_4136 c1_i32_4137 k0_t2
  let c16_i32_4199 : BitVec 32 := 16#32
  let v5276 : BitVec 32 := Scalar.muli arg11 c16_i32_4199
  let v5277 : Index := Scalar.indexCast v5276
  let c0_4201 : Index := 0#32
  ![10, v5277.toNat, 0]
def k0_off76 (k0_t2 : Fin k0_t2_loop.trips) : Fin 3 → Nat :=
  let c11_4206 : Index := 11#32
  let c0_i32_4136 : BitVec 32 := 0#32
  let c1_i32_4137 : BitVec 32 := 1#32
  let arg11 : BitVec 32 := Scf.iv c0_i32_4136 c1_i32_4137 k0_t2
  let c16_i32_4205 : BitVec 32 := 16#32
  let v5291 : BitVec 32 := Scalar.muli arg11 c16_i32_4205
  let v5292 : Index := Scalar.indexCast v5291
  let c0_4207 : Index := 0#32
  ![11, v5292.toNat, 0]
def k0_off77 (k0_t2 : Fin k0_t2_loop.trips) : Fin 3 → Nat :=
  let c12_4212 : Index := 12#32
  let c0_i32_4136 : BitVec 32 := 0#32
  let c1_i32_4137 : BitVec 32 := 1#32
  let arg11 : BitVec 32 := Scf.iv c0_i32_4136 c1_i32_4137 k0_t2
  let c16_i32_4211 : BitVec 32 := 16#32
  let v5306 : BitVec 32 := Scalar.muli arg11 c16_i32_4211
  let v5307 : Index := Scalar.indexCast v5306
  let c0_4213 : Index := 0#32
  ![12, v5307.toNat, 0]
def k0_off78 (k0_t2 : Fin k0_t2_loop.trips) : Fin 3 → Nat :=
  let c13_4218 : Index := 13#32
  let c0_i32_4136 : BitVec 32 := 0#32
  let c1_i32_4137 : BitVec 32 := 1#32
  let arg11 : BitVec 32 := Scf.iv c0_i32_4136 c1_i32_4137 k0_t2
  let c16_i32_4217 : BitVec 32 := 16#32
  let v5321 : BitVec 32 := Scalar.muli arg11 c16_i32_4217
  let v5322 : Index := Scalar.indexCast v5321
  let c0_4219 : Index := 0#32
  ![13, v5322.toNat, 0]
def k0_off79 (k0_t2 : Fin k0_t2_loop.trips) : Fin 3 → Nat :=
  let c14_4224 : Index := 14#32
  let c0_i32_4136 : BitVec 32 := 0#32
  let c1_i32_4137 : BitVec 32 := 1#32
  let arg11 : BitVec 32 := Scf.iv c0_i32_4136 c1_i32_4137 k0_t2
  let c16_i32_4223 : BitVec 32 := 16#32
  let v5336 : BitVec 32 := Scalar.muli arg11 c16_i32_4223
  let v5337 : Index := Scalar.indexCast v5336
  let c0_4225 : Index := 0#32
  ![14, v5337.toNat, 0]
def k0_off80 (k0_t2 : Fin k0_t2_loop.trips) : Fin 3 → Nat :=
  let c15_4230 : Index := 15#32
  let c0_i32_4136 : BitVec 32 := 0#32
  let c1_i32_4137 : BitVec 32 := 1#32
  let arg11 : BitVec 32 := Scf.iv c0_i32_4136 c1_i32_4137 k0_t2
  let c16_i32_4229 : BitVec 32 := 16#32
  let v5351 : BitVec 32 := Scalar.muli arg11 c16_i32_4229
  let v5352 : Index := Scalar.indexCast v5351
  let c0_4231 : Index := 0#32
  ![15, v5352.toNat, 0]
def k0_mult1 (k0_t2 : Fin k0_t2_loop.trips) : BitVec 32 :=
  let c0_i32_4136 : BitVec 32 := 0#32
  let c1_i32_4137 : BitVec 32 := 1#32
  let arg11 : BitVec 32 := Scf.iv c0_i32_4136 c1_i32_4137 k0_t2
  let c512_i32_4235 : BitVec 32 := 512#32
  let v5368 : BitVec 32 := Scalar.muli arg11 c512_i32_4235
  let c0_i32_4236 : BitVec 32 := 0#32
  let v5369 : BitVec 32 := Scalar.addi v5368 c0_i32_4236
  v5369
def k0_off81 (k0_t2 : Fin k0_t2_loop.trips) (c0_i32_4236 : BitVec 32) : Fin 2 → Nat :=
  let c0_i32_4136 : BitVec 32 := 0#32
  let c1_i32_4137 : BitVec 32 := 1#32
  let arg11 : BitVec 32 := Scf.iv c0_i32_4136 c1_i32_4137 k0_t2
  let c512_i32_4235 : BitVec 32 := 512#32
  let v5368 : BitVec 32 := Scalar.muli arg11 c512_i32_4235
  let v5369 : BitVec 32 := Scalar.addi v5368 c0_i32_4236
  let v5370 : BitVec 32 := v5369
  let v5372 : Index := Scalar.indexCast v5370
  let c0_4237 : Index := 0#32
  ![v5372.toNat, 0]
def k0_off82 (k0_t2 : Fin k0_t2_loop.trips) (c0_i32_4236 : BitVec 32) : Fin 2 → Nat :=
  let c0_4238 : Index := 0#32
  let c0_i32_4136 : BitVec 32 := 0#32
  let c1_i32_4137 : BitVec 32 := 1#32
  let arg11 : BitVec 32 := Scf.iv c0_i32_4136 c1_i32_4137 k0_t2
  let c512_i32_4235 : BitVec 32 := 512#32
  let v5368 : BitVec 32 := Scalar.muli arg11 c512_i32_4235
  let v5369 : BitVec 32 := Scalar.addi v5368 c0_i32_4236
  let v5370 : BitVec 32 := v5369
  let v5377 : Index := Scalar.indexCast v5370
  ![0, v5377.toNat]
def k0_off83 (k0_t2 : Fin k0_t2_loop.trips) : Fin 3 → Nat :=
  let c16_4240 : Index := 16#32
  let c0_i32_4136 : BitVec 32 := 0#32
  let c1_i32_4137 : BitVec 32 := 1#32
  let arg11 : BitVec 32 := Scf.iv c0_i32_4136 c1_i32_4137 k0_t2
  let c16_i32_4239 : BitVec 32 := 16#32
  let v5379 : BitVec 32 := Scalar.muli arg11 c16_i32_4239
  let v5380 : Index := Scalar.indexCast v5379
  let c0_4241 : Index := 0#32
  ![16, v5380.toNat, 0]
def k0_off84 (k0_t2 : Fin k0_t2_loop.trips) : Fin 3 → Nat :=
  let c17_4246 : Index := 17#32
  let c0_i32_4136 : BitVec 32 := 0#32
  let c1_i32_4137 : BitVec 32 := 1#32
  let arg11 : BitVec 32 := Scf.iv c0_i32_4136 c1_i32_4137 k0_t2
  let c16_i32_4245 : BitVec 32 := 16#32
  let v5394 : BitVec 32 := Scalar.muli arg11 c16_i32_4245
  let v5395 : Index := Scalar.indexCast v5394
  let c0_4247 : Index := 0#32
  ![17, v5395.toNat, 0]
def k0_off85 (k0_t2 : Fin k0_t2_loop.trips) : Fin 3 → Nat :=
  let c18_4252 : Index := 18#32
  let c0_i32_4136 : BitVec 32 := 0#32
  let c1_i32_4137 : BitVec 32 := 1#32
  let arg11 : BitVec 32 := Scf.iv c0_i32_4136 c1_i32_4137 k0_t2
  let c16_i32_4251 : BitVec 32 := 16#32
  let v5409 : BitVec 32 := Scalar.muli arg11 c16_i32_4251
  let v5410 : Index := Scalar.indexCast v5409
  let c0_4253 : Index := 0#32
  ![18, v5410.toNat, 0]
def k0_off86 (k0_t2 : Fin k0_t2_loop.trips) : Fin 3 → Nat :=
  let c19_4258 : Index := 19#32
  let c0_i32_4136 : BitVec 32 := 0#32
  let c1_i32_4137 : BitVec 32 := 1#32
  let arg11 : BitVec 32 := Scf.iv c0_i32_4136 c1_i32_4137 k0_t2
  let c16_i32_4257 : BitVec 32 := 16#32
  let v5424 : BitVec 32 := Scalar.muli arg11 c16_i32_4257
  let v5425 : Index := Scalar.indexCast v5424
  let c0_4259 : Index := 0#32
  ![19, v5425.toNat, 0]
def k0_off87 (k0_t2 : Fin k0_t2_loop.trips) : Fin 3 → Nat :=
  let c20_4264 : Index := 20#32
  let c0_i32_4136 : BitVec 32 := 0#32
  let c1_i32_4137 : BitVec 32 := 1#32
  let arg11 : BitVec 32 := Scf.iv c0_i32_4136 c1_i32_4137 k0_t2
  let c16_i32_4263 : BitVec 32 := 16#32
  let v5439 : BitVec 32 := Scalar.muli arg11 c16_i32_4263
  let v5440 : Index := Scalar.indexCast v5439
  let c0_4265 : Index := 0#32
  ![20, v5440.toNat, 0]
def k0_off88 (k0_t2 : Fin k0_t2_loop.trips) : Fin 3 → Nat :=
  let c21_4270 : Index := 21#32
  let c0_i32_4136 : BitVec 32 := 0#32
  let c1_i32_4137 : BitVec 32 := 1#32
  let arg11 : BitVec 32 := Scf.iv c0_i32_4136 c1_i32_4137 k0_t2
  let c16_i32_4269 : BitVec 32 := 16#32
  let v5454 : BitVec 32 := Scalar.muli arg11 c16_i32_4269
  let v5455 : Index := Scalar.indexCast v5454
  let c0_4271 : Index := 0#32
  ![21, v5455.toNat, 0]
def k0_off89 (k0_t2 : Fin k0_t2_loop.trips) : Fin 3 → Nat :=
  let c22_4276 : Index := 22#32
  let c0_i32_4136 : BitVec 32 := 0#32
  let c1_i32_4137 : BitVec 32 := 1#32
  let arg11 : BitVec 32 := Scf.iv c0_i32_4136 c1_i32_4137 k0_t2
  let c16_i32_4275 : BitVec 32 := 16#32
  let v5469 : BitVec 32 := Scalar.muli arg11 c16_i32_4275
  let v5470 : Index := Scalar.indexCast v5469
  let c0_4277 : Index := 0#32
  ![22, v5470.toNat, 0]
def k0_off90 (k0_t2 : Fin k0_t2_loop.trips) : Fin 3 → Nat :=
  let c23_4282 : Index := 23#32
  let c0_i32_4136 : BitVec 32 := 0#32
  let c1_i32_4137 : BitVec 32 := 1#32
  let arg11 : BitVec 32 := Scf.iv c0_i32_4136 c1_i32_4137 k0_t2
  let c16_i32_4281 : BitVec 32 := 16#32
  let v5484 : BitVec 32 := Scalar.muli arg11 c16_i32_4281
  let v5485 : Index := Scalar.indexCast v5484
  let c0_4283 : Index := 0#32
  ![23, v5485.toNat, 0]
def k0_off91 (k0_t2 : Fin k0_t2_loop.trips) : Fin 3 → Nat :=
  let c24_4288 : Index := 24#32
  let c0_i32_4136 : BitVec 32 := 0#32
  let c1_i32_4137 : BitVec 32 := 1#32
  let arg11 : BitVec 32 := Scf.iv c0_i32_4136 c1_i32_4137 k0_t2
  let c16_i32_4287 : BitVec 32 := 16#32
  let v5499 : BitVec 32 := Scalar.muli arg11 c16_i32_4287
  let v5500 : Index := Scalar.indexCast v5499
  let c0_4289 : Index := 0#32
  ![24, v5500.toNat, 0]
def k0_off92 (k0_t2 : Fin k0_t2_loop.trips) : Fin 3 → Nat :=
  let c25_4294 : Index := 25#32
  let c0_i32_4136 : BitVec 32 := 0#32
  let c1_i32_4137 : BitVec 32 := 1#32
  let arg11 : BitVec 32 := Scf.iv c0_i32_4136 c1_i32_4137 k0_t2
  let c16_i32_4293 : BitVec 32 := 16#32
  let v5514 : BitVec 32 := Scalar.muli arg11 c16_i32_4293
  let v5515 : Index := Scalar.indexCast v5514
  let c0_4295 : Index := 0#32
  ![25, v5515.toNat, 0]
def k0_off93 (k0_t2 : Fin k0_t2_loop.trips) : Fin 3 → Nat :=
  let c26_4300 : Index := 26#32
  let c0_i32_4136 : BitVec 32 := 0#32
  let c1_i32_4137 : BitVec 32 := 1#32
  let arg11 : BitVec 32 := Scf.iv c0_i32_4136 c1_i32_4137 k0_t2
  let c16_i32_4299 : BitVec 32 := 16#32
  let v5529 : BitVec 32 := Scalar.muli arg11 c16_i32_4299
  let v5530 : Index := Scalar.indexCast v5529
  let c0_4301 : Index := 0#32
  ![26, v5530.toNat, 0]
def k0_off94 (k0_t2 : Fin k0_t2_loop.trips) : Fin 3 → Nat :=
  let c27_4306 : Index := 27#32
  let c0_i32_4136 : BitVec 32 := 0#32
  let c1_i32_4137 : BitVec 32 := 1#32
  let arg11 : BitVec 32 := Scf.iv c0_i32_4136 c1_i32_4137 k0_t2
  let c16_i32_4305 : BitVec 32 := 16#32
  let v5544 : BitVec 32 := Scalar.muli arg11 c16_i32_4305
  let v5545 : Index := Scalar.indexCast v5544
  let c0_4307 : Index := 0#32
  ![27, v5545.toNat, 0]
def k0_off95 (k0_t2 : Fin k0_t2_loop.trips) : Fin 3 → Nat :=
  let c28_4312 : Index := 28#32
  let c0_i32_4136 : BitVec 32 := 0#32
  let c1_i32_4137 : BitVec 32 := 1#32
  let arg11 : BitVec 32 := Scf.iv c0_i32_4136 c1_i32_4137 k0_t2
  let c16_i32_4311 : BitVec 32 := 16#32
  let v5559 : BitVec 32 := Scalar.muli arg11 c16_i32_4311
  let v5560 : Index := Scalar.indexCast v5559
  let c0_4313 : Index := 0#32
  ![28, v5560.toNat, 0]
def k0_off96 (k0_t2 : Fin k0_t2_loop.trips) : Fin 3 → Nat :=
  let c29_4318 : Index := 29#32
  let c0_i32_4136 : BitVec 32 := 0#32
  let c1_i32_4137 : BitVec 32 := 1#32
  let arg11 : BitVec 32 := Scf.iv c0_i32_4136 c1_i32_4137 k0_t2
  let c16_i32_4317 : BitVec 32 := 16#32
  let v5574 : BitVec 32 := Scalar.muli arg11 c16_i32_4317
  let v5575 : Index := Scalar.indexCast v5574
  let c0_4319 : Index := 0#32
  ![29, v5575.toNat, 0]
def k0_off97 (k0_t2 : Fin k0_t2_loop.trips) : Fin 3 → Nat :=
  let c30_4324 : Index := 30#32
  let c0_i32_4136 : BitVec 32 := 0#32
  let c1_i32_4137 : BitVec 32 := 1#32
  let arg11 : BitVec 32 := Scf.iv c0_i32_4136 c1_i32_4137 k0_t2
  let c16_i32_4323 : BitVec 32 := 16#32
  let v5589 : BitVec 32 := Scalar.muli arg11 c16_i32_4323
  let v5590 : Index := Scalar.indexCast v5589
  let c0_4325 : Index := 0#32
  ![30, v5590.toNat, 0]
def k0_off98 (k0_t2 : Fin k0_t2_loop.trips) : Fin 3 → Nat :=
  let c31_4330 : Index := 31#32
  let c0_i32_4136 : BitVec 32 := 0#32
  let c1_i32_4137 : BitVec 32 := 1#32
  let arg11 : BitVec 32 := Scf.iv c0_i32_4136 c1_i32_4137 k0_t2
  let c16_i32_4329 : BitVec 32 := 16#32
  let v5604 : BitVec 32 := Scalar.muli arg11 c16_i32_4329
  let v5605 : Index := Scalar.indexCast v5604
  let c0_4331 : Index := 0#32
  ![31, v5605.toNat, 0]
def k0_mult2 (k0_t2 : Fin k0_t2_loop.trips) : BitVec 32 :=
  let c0_i32_4136 : BitVec 32 := 0#32
  let c1_i32_4137 : BitVec 32 := 1#32
  let arg11 : BitVec 32 := Scf.iv c0_i32_4136 c1_i32_4137 k0_t2
  let c512_i32_4335 : BitVec 32 := 512#32
  let v5621 : BitVec 32 := Scalar.muli arg11 c512_i32_4335
  let c256_i32_4336 : BitVec 32 := 256#32
  let v5622 : BitVec 32 := Scalar.addi v5621 c256_i32_4336
  v5622
abbrev stage0_0 : Fin 1 → Memref sig .tc .vmem S28x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x14336 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.BitsRotRuns.lean ====
/-
   The frame kit of the rotation call, in program `RotKernel`: what its run is stated over: the program up to the region (`hmain`), the arrays there (`V`), the
   input's block (`iblk`), the frame claim from a frame run (`frame_of`), the staging and scratch buffers, the call's own semaphores,
   and the invariant conjunct by conjunct (`PhiD0_eq`).
-/
module

public import proofs.«01_k».proof.Proof.Gen.RotKernel.Launch
public import proofs.«01_k».proof.Proof.Gen.RotKernel.Skeleton
public import proofs.«01_k».proof.Proof.Gen.RotKernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.RotKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_RotKernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S28x28 .f32 := win0_0.stage (cfg0.slots t 0)
abbrev hs0_0 (t : Fin cfg0.N) : (ms0_0 t).IsWhole := hstage0_0 0
abbrev ms0_1 (t : Fin cfg0.N) : Memref sig .tc .vmem S256x14336 .i8 := win0_1.stage (cfg0.slots t 1)
abbrev hs0_1 (t : Fin cfg0.N) : (ms0_1 t).IsWhole := hstage0_1 0
abbrev ms0_2 (t : Fin cfg0.N) : Memref sig .tc .vmem S14336x256 .fp8e4m3 := win0_2.stage (cfg0.slots t 2)
abbrev hs0_2 (t : Fin cfg0.N) : (ms0_2 t).IsWhole := hstage0_2 0
abbrev ms0_3 (t : Fin cfg0.N) : Memref sig .tc .vmem S1x256 .f32 := win0_3.stage (cfg0.slots t 3)
abbrev hs0_3 (t : Fin cfg0.N) : (ms0_3 t).IsWhole := hstage0_3 0
abbrev ms0_4 (t : Fin cfg0.N) : Memref sig .tc .vmem S1x256 .f32 := win0_4.stage (cfg0.slots t 4)
abbrev hs0_4 (t : Fin cfg0.N) : (ms0_4 t).IsWhole := hstage0_4 0
/-- The scratch operands: whole scoped buffers of the kernel's own, passed beside the windows. -/
abbrev scM0_0 : Memref sig .tc .vmem S256x14336 .bf16 := Memref.whole cc0_scratch0
abbrev scM0_1 : Memref sig .tc .vmem S8x448x256 .bf16 := Memref.whole cc0_scratch1
abbrev scM0_2 : Memref sig .tc .vmem S32x448x256 .f32 := Memref.whole cc0_scratch2
abbrev scM0_3 : Memref sig .tc .vmem S3x448x448 .bf16 := Memref.whole cc0_scratch3
/-- The operands left in HBM that the body copies into scratch itself, whole. -/
abbrev hbM0_0 : Memref sig .tc .hbm S256x14336 .bf16 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 5, SemLoc.dma 6, SemLoc.dma 7, SemLoc.dma 8] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_v0))) := by
  rw [Pipeline.ΦD_eq, scopedRest0_eq, ownSems00_eq, hbmPts0_eq]; simp only [scM0_0, scM0_1, scM0_2, scM0_3, owns_whole]; try rfl

end Cert.RotKernel.Gen

end
-- ==== Proof.BitsRotWindows.lean ====
/-
   The 112 windows of the rotation call, in program `RotKernel`: the 128-column windows that the body copies, each held by its own elements, and the two buffers
   taken apart into them and put together again.
-/
module

public import proofs.«01_k».proof.Proof.BitsRotRuns
public import Idealize.ShloMosaic.Lib.Pipeline.Frame

@[expose] public section

set_option maxRecDepth 16384

noncomputable section

namespace Cert.RotKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The 112 windows of 128 columns the body moves, taken apart and put together -/

/-- A memref's 128 columns from an offset, held by their own elements. -/
abbrev pwin (c : Dev nD) {sp : Space} (M : Memref sig .tc sp S256x14336 .bf16) (off : Fin 2 → Nat)
    (h : ∀ a, off a + S256x128.size a ≤ S256x14336.size a) (f : BufTy.Contents (Elt F) M.view.ty) : sProp 𝕄 :=
  (M.slice (Rect.unit (s := S256x14336) off S256x128.size h) (fun _ => rfl)).view.loc (c : Thread nD τ)
    ↦[(M.slice (Rect.unit (s := S256x14336) off S256x128.size h) (fun _ => rfl)).view.set]{fullShare} f

/-- All windows at the same contents, in the order the body starts their copies; -/
def wins (c : Dev nD) {sp : Space} (M : Memref sig .tc sp S256x14336 .bf16) (f : BufTy.Contents (Elt F) M.view.ty) : sProp 𝕄 :=
  iprop(pwin c M ![0, 0] inb_S256x14336_S256x128_0_0 f ∗ pwin c M ![0, 512] inb_S256x14336_S256x128_0_512 f ∗ pwin c M ![0, 1024] inb_S256x14336_S256x128_0_1024 f ∗ pwin c M ![0, 1536] inb_S256x14336_S256x128_0_1536 f
    ∗ pwin c M ![0, 2048] inb_S256x14336_S256x128_0_2048 f ∗ pwin c M ![0, 2560] inb_S256x14336_S256x128_0_2560 f ∗ pwin c M ![0, 3072] inb_S256x14336_S256x128_0_3072 f ∗ pwin c M ![0, 3584] inb_S256x14336_S256x128_0_3584 f
    ∗ pwin c M ![0, 4096] inb_S256x14336_S256x128_0_4096 f ∗ pwin c M ![0, 4608] inb_S256x14336_S256x128_0_4608 f ∗ pwin c M ![0, 5120] inb_S256x14336_S256x128_0_5120 f ∗ pwin c M ![0, 5632] inb_S256x14336_S256x128_0_5632 f
    ∗ pwin c M ![0, 6144] inb_S256x14336_S256x128_0_6144 f ∗ pwin c M ![0, 6656] inb_S256x14336_S256x128_0_6656 f ∗ pwin c M ![0, 7168] inb_S256x14336_S256x128_0_7168 f ∗ pwin c M ![0, 7680] inb_S256x14336_S256x128_0_7680 f
    ∗ pwin c M ![0, 8192] inb_S256x14336_S256x128_0_8192 f ∗ pwin c M ![0, 8704] inb_S256x14336_S256x128_0_8704 f ∗ pwin c M ![0, 9216] inb_S256x14336_S256x128_0_9216 f ∗ pwin c M ![0, 9728] inb_S256x14336_S256x128_0_9728 f
    ∗ pwin c M ![0, 10240] inb_S256x14336_S256x128_0_10240 f ∗ pwin c M ![0, 10752] inb_S256x14336_S256x128_0_10752 f ∗ pwin c M ![0, 11264] inb_S256x14336_S256x128_0_11264 f ∗ pwin c M ![0, 11776] inb_S256x14336_S256x128_0_11776 f
    ∗ pwin c M ![0, 12288] inb_S256x14336_S256x128_0_12288 f ∗ pwin c M ![0, 12800] inb_S256x14336_S256x128_0_12800 f ∗ pwin c M ![0, 13312] inb_S256x14336_S256x128_0_13312 f ∗ pwin c M ![0, 13824] inb_S256x14336_S256x128_0_13824 f
    ∗ pwin c M ![0, 128] inb_S256x14336_S256x128_0_128 f ∗ pwin c M ![0, 640] inb_S256x14336_S256x128_0_640 f ∗ pwin c M ![0, 1152] inb_S256x14336_S256x128_0_1152 f ∗ pwin c M ![0, 1664] inb_S256x14336_S256x128_0_1664 f
    ∗ pwin c M ![0, 2176] inb_S256x14336_S256x128_0_2176 f ∗ pwin c M ![0, 2688] inb_S256x14336_S256x128_0_2688 f ∗ pwin c M ![0, 3200] inb_S256x14336_S256x128_0_3200 f ∗ pwin c M ![0, 3712] inb_S256x14336_S256x128_0_3712 f
    ∗ pwin c M ![0, 4224] inb_S256x14336_S256x128_0_4224 f ∗ pwin c M ![0, 4736] inb_S256x14336_S256x128_0_4736 f ∗ pwin c M ![0, 5248] inb_S256x14336_S256x128_0_5248 f ∗ pwin c M ![0, 5760] inb_S256x14336_S256x128_0_5760 f
    ∗ pwin c M ![0, 6272] inb_S256x14336_S256x128_0_6272 f ∗ pwin c M ![0, 6784] inb_S256x14336_S256x128_0_6784 f ∗ pwin c M ![0, 7296] inb_S256x14336_S256x128_0_7296 f ∗ pwin c M ![0, 7808] inb_S256x14336_S256x128_0_7808 f
    ∗ pwin c M ![0, 8320] inb_S256x14336_S256x128_0_8320 f ∗ pwin c M ![0, 8832] inb_S256x14336_S256x128_0_8832 f ∗ pwin c M ![0, 9344] inb_S256x14336_S256x128_0_9344 f ∗ pwin c M ![0, 9856] inb_S256x14336_S256x128_0_9856 f
    ∗ pwin c M ![0, 10368] inb_S256x14336_S256x128_0_10368 f ∗ pwin c M ![0, 10880] inb_S256x14336_S256x128_0_10880 f ∗ pwin c M ![0, 11392] inb_S256x14336_S256x128_0_11392 f ∗ pwin c M ![0, 11904] inb_S256x14336_S256x128_0_11904 f
    ∗ pwin c M ![0, 12416] inb_S256x14336_S256x128_0_12416 f ∗ pwin c M ![0, 12928] inb_S256x14336_S256x128_0_12928 f ∗ pwin c M ![0, 13440] inb_S256x14336_S256x128_0_13440 f ∗ pwin c M ![0, 13952] inb_S256x14336_S256x128_0_13952 f
    ∗ pwin c M ![0, 256] inb_S256x14336_S256x128_0_256 f ∗ pwin c M ![0, 768] inb_S256x14336_S256x128_0_768 f ∗ pwin c M ![0, 1280] inb_S256x14336_S256x128_0_1280 f ∗ pwin c M ![0, 1792] inb_S256x14336_S256x128_0_1792 f
    ∗ pwin c M ![0, 2304] inb_S256x14336_S256x128_0_2304 f ∗ pwin c M ![0, 2816] inb_S256x14336_S256x128_0_2816 f ∗ pwin c M ![0, 3328] inb_S256x14336_S256x128_0_3328 f ∗ pwin c M ![0, 3840] inb_S256x14336_S256x128_0_3840 f
    ∗ pwin c M ![0, 4352] inb_S256x14336_S256x128_0_4352 f ∗ pwin c M ![0, 4864] inb_S256x14336_S256x128_0_4864 f ∗ pwin c M ![0, 5376] inb_S256x14336_S256x128_0_5376 f ∗ pwin c M ![0, 5888] inb_S256x14336_S256x128_0_5888 f
    ∗ pwin c M ![0, 6400] inb_S256x14336_S256x128_0_6400 f ∗ pwin c M ![0, 6912] inb_S256x14336_S256x128_0_6912 f ∗ pwin c M ![0, 7424] inb_S256x14336_S256x128_0_7424 f ∗ pwin c M ![0, 7936] inb_S256x14336_S256x128_0_7936 f
    ∗ pwin c M ![0, 8448] inb_S256x14336_S256x128_0_8448 f ∗ pwin c M ![0, 8960] inb_S256x14336_S256x128_0_8960 f ∗ pwin c M ![0, 9472] inb_S256x14336_S256x128_0_9472 f ∗ pwin c M ![0, 9984] inb_S256x14336_S256x128_0_9984 f
    ∗ pwin c M ![0, 10496] inb_S256x14336_S256x128_0_10496 f ∗ pwin c M ![0, 11008] inb_S256x14336_S256x128_0_11008 f ∗ pwin c M ![0, 11520] inb_S256x14336_S256x128_0_11520 f ∗ pwin c M ![0, 12032] inb_S256x14336_S256x128_0_12032 f
    ∗ pwin c M ![0, 12544] inb_S256x14336_S256x128_0_12544 f ∗ pwin c M ![0, 13056] inb_S256x14336_S256x128_0_13056 f ∗ pwin c M ![0, 13568] inb_S256x14336_S256x128_0_13568 f ∗ pwin c M ![0, 14080] inb_S256x14336_S256x128_0_14080 f
    ∗ pwin c M ![0, 384] inb_S256x14336_S256x128_0_384 f ∗ pwin c M ![0, 896] inb_S256x14336_S256x128_0_896 f ∗ pwin c M ![0, 1408] inb_S256x14336_S256x128_0_1408 f ∗ pwin c M ![0, 1920] inb_S256x14336_S256x128_0_1920 f
    ∗ pwin c M ![0, 2432] inb_S256x14336_S256x128_0_2432 f ∗ pwin c M ![0, 2944] inb_S256x14336_S256x128_0_2944 f ∗ pwin c M ![0, 3456] inb_S256x14336_S256x128_0_3456 f ∗ pwin c M ![0, 3968] inb_S256x14336_S256x128_0_3968 f
    ∗ pwin c M ![0, 4480] inb_S256x14336_S256x128_0_4480 f ∗ pwin c M ![0, 4992] inb_S256x14336_S256x128_0_4992 f ∗ pwin c M ![0, 5504] inb_S256x14336_S256x128_0_5504 f ∗ pwin c M ![0, 6016] inb_S256x14336_S256x128_0_6016 f
    ∗ pwin c M ![0, 6528] inb_S256x14336_S256x128_0_6528 f ∗ pwin c M ![0, 7040] inb_S256x14336_S256x128_0_7040 f ∗ pwin c M ![0, 7552] inb_S256x14336_S256x128_0_7552 f ∗ pwin c M ![0, 8064] inb_S256x14336_S256x128_0_8064 f
    ∗ pwin c M ![0, 8576] inb_S256x14336_S256x128_0_8576 f ∗ pwin c M ![0, 9088] inb_S256x14336_S256x128_0_9088 f ∗ pwin c M ![0, 9600] inb_S256x14336_S256x128_0_9600 f ∗ pwin c M ![0, 10112] inb_S256x14336_S256x128_0_10112 f
    ∗ pwin c M ![0, 10624] inb_S256x14336_S256x128_0_10624 f ∗ pwin c M ![0, 11136] inb_S256x14336_S256x128_0_11136 f ∗ pwin c M ![0, 11648] inb_S256x14336_S256x128_0_11648 f ∗ pwin c M ![0, 12160] inb_S256x14336_S256x128_0_12160 f
    ∗ pwin c M ![0, 12672] inb_S256x14336_S256x128_0_12672 f ∗ pwin c M ![0, 13184] inb_S256x14336_S256x128_0_13184 f ∗ pwin c M ![0, 13696] inb_S256x14336_S256x128_0_13696 f ∗ pwin c M ![0, 14208] inb_S256x14336_S256x128_0_14208 f)

/-- each at contents of its own. -/
def winsE (c : Dev nD) {sp : Space} (M : Memref sig .tc sp S256x14336 .bf16) : sProp 𝕄 :=
  iprop((∃ f, pwin c M ![0, 0] inb_S256x14336_S256x128_0_0 f) ∗ (∃ f, pwin c M ![0, 512] inb_S256x14336_S256x128_0_512 f) ∗ (∃ f, pwin c M ![0, 1024] inb_S256x14336_S256x128_0_1024 f) ∗ (∃ f, pwin c M ![0, 1536] inb_S256x14336_S256x128_0_1536 f)
    ∗ (∃ f, pwin c M ![0, 2048] inb_S256x14336_S256x128_0_2048 f) ∗ (∃ f, pwin c M ![0, 2560] inb_S256x14336_S256x128_0_2560 f) ∗ (∃ f, pwin c M ![0, 3072] inb_S256x14336_S256x128_0_3072 f) ∗ (∃ f, pwin c M ![0, 3584] inb_S256x14336_S256x128_0_3584 f)
    ∗ (∃ f, pwin c M ![0, 4096] inb_S256x14336_S256x128_0_4096 f) ∗ (∃ f, pwin c M ![0, 4608] inb_S256x14336_S256x128_0_4608 f) ∗ (∃ f, pwin c M ![0, 5120] inb_S256x14336_S256x128_0_5120 f) ∗ (∃ f, pwin c M ![0, 5632] inb_S256x14336_S256x128_0_5632 f)
    ∗ (∃ f, pwin c M ![0, 6144] inb_S256x14336_S256x128_0_6144 f) ∗ (∃ f, pwin c M ![0, 6656] inb_S256x14336_S256x128_0_6656 f) ∗ (∃ f, pwin c M ![0, 7168] inb_S256x14336_S256x128_0_7168 f) ∗ (∃ f, pwin c M ![0, 7680] inb_S256x14336_S256x128_0_7680 f)
    ∗ (∃ f, pwin c M ![0, 8192] inb_S256x14336_S256x128_0_8192 f) ∗ (∃ f, pwin c M ![0, 8704] inb_S256x14336_S256x128_0_8704 f) ∗ (∃ f, pwin c M ![0, 9216] inb_S256x14336_S256x128_0_9216 f) ∗ (∃ f, pwin c M ![0, 9728] inb_S256x14336_S256x128_0_9728 f)
    ∗ (∃ f, pwin c M ![0, 10240] inb_S256x14336_S256x128_0_10240 f) ∗ (∃ f, pwin c M ![0, 10752] inb_S256x14336_S256x128_0_10752 f) ∗ (∃ f, pwin c M ![0, 11264] inb_S256x14336_S256x128_0_11264 f) ∗ (∃ f, pwin c M ![0, 11776] inb_S256x14336_S256x128_0_11776 f)
    ∗ (∃ f, pwin c M ![0, 12288] inb_S256x14336_S256x128_0_12288 f) ∗ (∃ f, pwin c M ![0, 12800] inb_S256x14336_S256x128_0_12800 f) ∗ (∃ f, pwin c M ![0, 13312] inb_S256x14336_S256x128_0_13312 f) ∗ (∃ f, pwin c M ![0, 13824] inb_S256x14336_S256x128_0_13824 f)
    ∗ (∃ f, pwin c M ![0, 128] inb_S256x14336_S256x128_0_128 f) ∗ (∃ f, pwin c M ![0, 640] inb_S256x14336_S256x128_0_640 f) ∗ (∃ f, pwin c M ![0, 1152] inb_S256x14336_S256x128_0_1152 f) ∗ (∃ f, pwin c M ![0, 1664] inb_S256x14336_S256x128_0_1664 f)
    ∗ (∃ f, pwin c M ![0, 2176] inb_S256x14336_S256x128_0_2176 f) ∗ (∃ f, pwin c M ![0, 2688] inb_S256x14336_S256x128_0_2688 f) ∗ (∃ f, pwin c M ![0, 3200] inb_S256x14336_S256x128_0_3200 f) ∗ (∃ f, pwin c M ![0, 3712] inb_S256x14336_S256x128_0_3712 f)
    ∗ (∃ f, pwin c M ![0, 4224] inb_S256x14336_S256x128_0_4224 f) ∗ (∃ f, pwin c M ![0, 4736] inb_S256x14336_S256x128_0_4736 f) ∗ (∃ f, pwin c M ![0, 5248] inb_S256x14336_S256x128_0_5248 f) ∗ (∃ f, pwin c M ![0, 5760] inb_S256x14336_S256x128_0_5760 f)
    ∗ (∃ f, pwin c M ![0, 6272] inb_S256x14336_S256x128_0_6272 f) ∗ (∃ f, pwin c M ![0, 6784] inb_S256x14336_S256x128_0_6784 f) ∗ (∃ f, pwin c M ![0, 7296] inb_S256x14336_S256x128_0_7296 f) ∗ (∃ f, pwin c M ![0, 7808] inb_S256x14336_S256x128_0_7808 f)
    ∗ (∃ f, pwin c M ![0, 8320] inb_S256x14336_S256x128_0_8320 f) ∗ (∃ f, pwin c M ![0, 8832] inb_S256x14336_S256x128_0_8832 f) ∗ (∃ f, pwin c M ![0, 9344] inb_S256x14336_S256x128_0_9344 f) ∗ (∃ f, pwin c M ![0, 9856] inb_S256x14336_S256x128_0_9856 f)
    ∗ (∃ f, pwin c M ![0, 10368] inb_S256x14336_S256x128_0_10368 f) ∗ (∃ f, pwin c M ![0, 10880] inb_S256x14336_S256x128_0_10880 f) ∗ (∃ f, pwin c M ![0, 11392] inb_S256x14336_S256x128_0_11392 f) ∗ (∃ f, pwin c M ![0, 11904] inb_S256x14336_S256x128_0_11904 f)
    ∗ (∃ f, pwin c M ![0, 12416] inb_S256x14336_S256x128_0_12416 f) ∗ (∃ f, pwin c M ![0, 12928] inb_S256x14336_S256x128_0_12928 f) ∗ (∃ f, pwin c M ![0, 13440] inb_S256x14336_S256x128_0_13440 f) ∗ (∃ f, pwin c M ![0, 13952] inb_S256x14336_S256x128_0_13952 f)
    ∗ (∃ f, pwin c M ![0, 256] inb_S256x14336_S256x128_0_256 f) ∗ (∃ f, pwin c M ![0, 768] inb_S256x14336_S256x128_0_768 f) ∗ (∃ f, pwin c M ![0, 1280] inb_S256x14336_S256x128_0_1280 f) ∗ (∃ f, pwin c M ![0, 1792] inb_S256x14336_S256x128_0_1792 f)
    ∗ (∃ f, pwin c M ![0, 2304] inb_S256x14336_S256x128_0_2304 f) ∗ (∃ f, pwin c M ![0, 2816] inb_S256x14336_S256x128_0_2816 f) ∗ (∃ f, pwin c M ![0, 3328] inb_S256x14336_S256x128_0_3328 f) ∗ (∃ f, pwin c M ![0, 3840] inb_S256x14336_S256x128_0_3840 f)
    ∗ (∃ f, pwin c M ![0, 4352] inb_S256x14336_S256x128_0_4352 f) ∗ (∃ f, pwin c M ![0, 4864] inb_S256x14336_S256x128_0_4864 f) ∗ (∃ f, pwin c M ![0, 5376] inb_S256x14336_S256x128_0_5376 f) ∗ (∃ f, pwin c M ![0, 5888] inb_S256x14336_S256x128_0_5888 f)
    ∗ (∃ f, pwin c M ![0, 6400] inb_S256x14336_S256x128_0_6400 f) ∗ (∃ f, pwin c M ![0, 6912] inb_S256x14336_S256x128_0_6912 f) ∗ (∃ f, pwin c M ![0, 7424] inb_S256x14336_S256x128_0_7424 f) ∗ (∃ f, pwin c M ![0, 7936] inb_S256x14336_S256x128_0_7936 f)
    ∗ (∃ f, pwin c M ![0, 8448] inb_S256x14336_S256x128_0_8448 f) ∗ (∃ f, pwin c M ![0, 8960] inb_S256x14336_S256x128_0_8960 f) ∗ (∃ f, pwin c M ![0, 9472] inb_S256x14336_S256x128_0_9472 f) ∗ (∃ f, pwin c M ![0, 9984] inb_S256x14336_S256x128_0_9984 f)
    ∗ (∃ f, pwin c M ![0, 10496] inb_S256x14336_S256x128_0_10496 f) ∗ (∃ f, pwin c M ![0, 11008] inb_S256x14336_S256x128_0_11008 f) ∗ (∃ f, pwin c M ![0, 11520] inb_S256x14336_S256x128_0_11520 f) ∗ (∃ f, pwin c M ![0, 12032] inb_S256x14336_S256x128_0_12032 f)
    ∗ (∃ f, pwin c M ![0, 12544] inb_S256x14336_S256x128_0_12544 f) ∗ (∃ f, pwin c M ![0, 13056] inb_S256x14336_S256x128_0_13056 f) ∗ (∃ f, pwin c M ![0, 13568] inb_S256x14336_S256x128_0_13568 f) ∗ (∃ f, pwin c M ![0, 14080] inb_S256x14336_S256x128_0_14080 f)
    ∗ (∃ f, pwin c M ![0, 384] inb_S256x14336_S256x128_0_384 f) ∗ (∃ f, pwin c M ![0, 896] inb_S256x14336_S256x128_0_896 f) ∗ (∃ f, pwin c M ![0, 1408] inb_S256x14336_S256x128_0_1408 f) ∗ (∃ f, pwin c M ![0, 1920] inb_S256x14336_S256x128_0_1920 f)
    ∗ (∃ f, pwin c M ![0, 2432] inb_S256x14336_S256x128_0_2432 f) ∗ (∃ f, pwin c M ![0, 2944] inb_S256x14336_S256x128_0_2944 f) ∗ (∃ f, pwin c M ![0, 3456] inb_S256x14336_S256x128_0_3456 f) ∗ (∃ f, pwin c M ![0, 3968] inb_S256x14336_S256x128_0_3968 f)
    ∗ (∃ f, pwin c M ![0, 4480] inb_S256x14336_S256x128_0_4480 f) ∗ (∃ f, pwin c M ![0, 4992] inb_S256x14336_S256x128_0_4992 f) ∗ (∃ f, pwin c M ![0, 5504] inb_S256x14336_S256x128_0_5504 f) ∗ (∃ f, pwin c M ![0, 6016] inb_S256x14336_S256x128_0_6016 f)
    ∗ (∃ f, pwin c M ![0, 6528] inb_S256x14336_S256x128_0_6528 f) ∗ (∃ f, pwin c M ![0, 7040] inb_S256x14336_S256x128_0_7040 f) ∗ (∃ f, pwin c M ![0, 7552] inb_S256x14336_S256x128_0_7552 f) ∗ (∃ f, pwin c M ![0, 8064] inb_S256x14336_S256x128_0_8064 f)
    ∗ (∃ f, pwin c M ![0, 8576] inb_S256x14336_S256x128_0_8576 f) ∗ (∃ f, pwin c M ![0, 9088] inb_S256x14336_S256x128_0_9088 f) ∗ (∃ f, pwin c M ![0, 9600] inb_S256x14336_S256x128_0_9600 f) ∗ (∃ f, pwin c M ![0, 10112] inb_S256x14336_S256x128_0_10112 f)
    ∗ (∃ f, pwin c M ![0, 10624] inb_S256x14336_S256x128_0_10624 f) ∗ (∃ f, pwin c M ![0, 11136] inb_S256x14336_S256x128_0_11136 f) ∗ (∃ f, pwin c M ![0, 11648] inb_S256x14336_S256x128_0_11648 f) ∗ (∃ f, pwin c M ![0, 12160] inb_S256x14336_S256x128_0_12160 f)
    ∗ (∃ f, pwin c M ![0, 12672] inb_S256x14336_S256x128_0_12672 f) ∗ (∃ f, pwin c M ![0, 13184] inb_S256x14336_S256x128_0_13184 f) ∗ (∃ f, pwin c M ![0, 13696] inb_S256x14336_S256x128_0_13696 f) ∗ (∃ f, pwin c M ![0, 14208] inb_S256x14336_S256x128_0_14208 f))

/-- Window `b`'s offset. -/
abbrev woff (b : Fin 112) : Fin 2 → Nat := ![0, (b.val % 28) * 512 + (b.val / 28) * 128]

theorem woff_inb (b : Fin 112) : ∀ a, woff b a + S256x128.size a ≤ S256x14336.size a := by
  have := b.isLt
  intro a
  fin_cases a
  · show 0 + 256 ≤ 256; omega
  · show (b.val % 28) * 512 + (b.val / 28) * 128 + 128 ≤ 14336; omega

/-- Window `b`. -/
abbrev wrect (b : Fin 112) : Rect S256x14336 := Rect.unit (s := S256x14336) (woff b) S256x128.size (woff_inb b)

theorem mem_wrect (b : Fin 112) (i : S256x14336.Idx) :
    i ∈ (wrect b).set ↔ (b.val % 28) * 512 + (b.val / 28) * 128 ≤ (i 1).val ∧ (i 1).val < (b.val % 28) * 512 + (b.val / 28) * 128 + 128 := by
  rw [Rect.mem_set_unit]
  constructor
  · intro h; exact h 1
  · intro h a
    fin_cases a
    · exact ⟨Nat.zero_le _, (i 0).isLt⟩
    · exact h

theorem wrect_disjoint (b b' : Fin 112) (h : b ≠ b') : Disjoint (wrect b).set (wrect b').set := by
  rw [Finset.disjoint_left]
  intro i hi hi'
  rw [mem_wrect] at hi hi'
  have := b.isLt; have := b'.isLt
  exact h (Fin.ext (by omega))

theorem wrect_cover : Finset.univ.biUnion (fun b => (wrect b).set) = Finset.univ := by
  ext i
  simp only [Finset.mem_biUnion, Finset.mem_univ, true_and, iff_true]
  have h : (i 1).val < 14336 := (i 1).isLt
  refine ⟨⟨(i 1).val / 512 + 28 * ((i 1).val % 512 / 128), by omega⟩, ?_⟩
  rw [mem_wrect]
  simp only
  omega

/-- The windows, listed. -/
abbrev wlist : List (Fin 112) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111]
theorem wlist_univ : Finset.univ = wlist.toFinset := by decide
theorem wlist_nodup : wlist.Nodup := by decide

/-- The elements of `scM0_0`'s window `b`. -/
abbrev scrSet (c : Dev nD) (b : Fin 112) : Finset (Idx (scM0_0.view.loc (c : Thread nD τ))) :=
  (scM0_0.slice (wrect b) (fun _ => rfl)).view.set
theorem scrSet_eq (c : Dev nD) (b : Fin 112) : scrSet c b = (wrect b).set := View.set_slice_whole _ _

theorem scr_disjoint (c : Dev nD) : ∀ b b', b ≠ b' → Disjoint (scrSet c b) (scrSet c b') := by
  intro b b' h
  rw [scrSet_eq, scrSet_eq]; exact wrect_disjoint b b' h

theorem scr_cover (c : Dev nD) : Finset.univ.biUnion (scrSet c) = Finset.univ := by
  rw [funext (scrSet_eq c)]; exact wrect_cover

/-- The buffer whole is its 112 windows, at the same contents. -/
theorem scr_split (c : Dev nD) (f : HbBuf0 (F := F) c scM0_0) : (hbPt0 c scM0_0 f : sProp 𝕄) = wins c scM0_0 f :=
  (Ring.pointsTo_blocks (scrSet c) (scr_disjoint c) (scr_cover c) f).trans
    ((bigSep_univ_eq_bigSepL wlist wlist_univ wlist_nodup _).trans rfl)

/-- Its windows at contents of their own are the buffer whole at some contents. -/
theorem scr_join (c : Dev nD) (f₀ : HbBuf0 (F := F) c scM0_0) : winsE c scM0_0 ⊢ (iprop(∃ f, hbPt0 c scM0_0 f) : sProp 𝕄) := by
  have h := Ring.pointsTo_blocks_join_exists (Ix := Unit) (Val := Elt F) (Name := ℕ) (U := Pipeline.UD sig nD τ) (Lvl := ℕ)
    (scrSet c) (scr_disjoint c) (scr_cover c) (q := fullShare) f₀
  rw [bigSep_univ_eq_bigSepL wlist wlist_univ wlist_nodup] at h
  exact h

/-- The elements of `hbM0_0`'s window `b`. -/
abbrev hbmSet (c : Dev nD) (b : Fin 112) : Finset (Idx (hbM0_0.view.loc (c : Thread nD τ))) :=
  (hbM0_0.slice (wrect b) (fun _ => rfl)).view.set
theorem hbmSet_eq (c : Dev nD) (b : Fin 112) : hbmSet c b = (wrect b).set := View.set_slice_whole _ _

theorem hbm_disjoint (c : Dev nD) : ∀ b b', b ≠ b' → Disjoint (hbmSet c b) (hbmSet c b') := by
  intro b b' h
  rw [hbmSet_eq, hbmSet_eq]; exact wrect_disjoint b b' h

theorem hbm_cover (c : Dev nD) : Finset.univ.biUnion (hbmSet c) = Finset.univ := by
  rw [funext (hbmSet_eq c)]; exact wrect_cover

/-- The buffer whole is its 112 windows, at the same contents. -/
theorem hbm_split (c : Dev nD) (f : HbBuf0 (F := F) c hbM0_0) : (hbPt0 c hbM0_0 f : sProp 𝕄) = wins c hbM0_0 f :=
  (Ring.pointsTo_blocks (hbmSet c) (hbm_disjoint c) (hbm_cover c) f).trans
    ((bigSep_univ_eq_bigSepL wlist wlist_univ wlist_nodup _).trans rfl)

/-- Its windows at contents of their own are the buffer whole at some contents. -/
theorem hbm_join (c : Dev nD) (f₀ : HbBuf0 (F := F) c hbM0_0) : winsE c hbM0_0 ⊢ (iprop(∃ f, hbPt0 c hbM0_0 f) : sProp 𝕄) := by
  have h := Ring.pointsTo_blocks_join_exists (Ix := Unit) (Val := Elt F) (Name := ℕ) (U := Pipeline.UD sig nD τ) (Lvl := ℕ)
    (hbmSet c) (hbm_disjoint c) (hbm_cover c) (q := fullShare) f₀
  rw [bigSep_univ_eq_bigSepL wlist wlist_univ wlist_nodup] at h
  exact h

end Cert.RotKernel.Gen

end
-- ==== Proof.BitsRotLoops.lean ====
/-
   The two counted loops of the rotation call, in program `RotKernel`: for each loop what one trip does (`trip_…`, found by running it), the state before a trip as a
   recursion on the trip's number (`st_…`, `pb_…`), and the loop's invariant (`loopInv_…`).
-/
module

public import proofs.«01_k».proof.Proof.Gen.RotKernel.Skeleton
public import Idealize.ShloMosaic.Lib.Exec
public import Idealize.ShloMosaic.Lib.Tactic
public import Idealize.ShloMosaic.Lib.Pipeline.Kit
public import Idealize.ShloMosaic.Lib.Pipeline.Frame

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.RotKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: that of a body with transfers of its own. -/
local notation "𝕄G" => MT nD τ sig Unit (Elt F) ℕ (Pipeline.UD sig nD τ) ℕ
/-! ## `cc0_rot_quant` -/

/-- The class of invariants of `cc0_rot_quant`'s counted loop `k0_t2_loop` (`scf.for %arg11 =
   %c0_i32_4136 to %5125 step %c1_i32_4137 : i32 {`), trip `k0_t2`, carrying `Unit`, region
   `Gen.k0_t2_body`. Classifier: AFFINE — every store at a `Rect.unit` whose offsets are a stated
   closed form of the trips, nothing carried, no transfer or conditional inside: the invariant is
   the pieces of the trips before `k`. One trip calls the parts
   `k0_part56`, `k0_part45`, `k0_part46`, `k0_part47`, `k0_part48`, `k0_part49`, `k0_part50`,
   `k0_part51`, `k0_part52`, `k0_part53`, `k0_part54`, `k0_part55`. Per trip it STORES through arg3
   at (k0_off81 k0_t2 0#32); arg2 at (k0_off82 k0_t2 0#32); arg3 at (k0_off81 k0_t2 256#32); arg2 at
   (k0_off82 k0_t2 256#32). It LOADS through arg8 at (k0_off65 k0_t2); arg8 at (k0_off66 k0_t2);
   arg8 at (k0_off67 k0_t2); arg8 at (k0_off68 k0_t2); arg8 at (k0_off69 k0_t2); arg8 at (k0_off70
   k0_t2); arg8 at (k0_off71 k0_t2); arg8 at (k0_off72 k0_t2); arg8 at (k0_off73 k0_t2); arg8 at
   (k0_off74 k0_t2); arg8 at (k0_off75 k0_t2); arg8 at (k0_off76 k0_t2); and more. Below:
   `Gen.loopInv_k0_t2` (`@[sl_loop]`), at the frame kit's algebra. -/
abbrev LoopInvTy_k0_t2 (Ix Name U Lvl : Type) [DecidableEq Ix] [DecidableEq Name] [RA.URA U] [Preorder Lvl]
    (𝒱 : Variants) (c : Dev nD) (bd : Option 𝒱.V) (E : Set Name) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 arg10 v5105 v5110)

/-! ### `k0_t2_loop`: its invariant -/

/-- One trip's resources: what the region reads (arg8) at its contents, what it writes (arg2, arg3)
   at any. -/
abbrev Trip_k0_t2 (c : Dev nD) (arg8 : Memref sig .tc .vmem S32x448x256 .f32) (arg2 : Memref sig .tc .vmem S256x14336 .i8) (arg3 : Memref sig .tc .vmem S14336x256 .fp8e4m3) (X_arg8 : BufTy.Contents (Elt F) arg8.view.ty) (f_arg2 : BufTy.Contents (Elt F) arg2.view.ty) (f_arg3 : BufTy.Contents (Elt F) arg3.view.ty) : sProp 𝕄G :=
  iprop((arg8.view.loc (c : Thread nD τ) ↦[arg8.view.set]{fullShare} X_arg8) ∗ (arg2.view.loc (c : Thread nD τ) ↦[arg2.view.set]{fullShare} f_arg2) ∗ (arg3.view.loc (c : Thread nD τ) ↦[arg3.view.set]{fullShare} f_arg3))

/-- ONE TRIP of `k0_t2_loop` at a symbolic `k`, run by `sl_exec` (its rectangles' offsets closed
   forms of `k`, their geometry linear arithmetic): the pieces it writes into arg2, arg3 are the
   run's own finds — the witnesses `sl_close` assigns handing the buffers to the continuation.
   `@[irreducible]`: cited, never unfolded. -/
@[irreducible] def trip_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : Fin k0_t2_loop.trips) :
    Σ' (L_arg2 : List (View.Piece (Elt F) S256x14336 .i8)) , { L_arg3 : List (View.Piece (Elt F) S14336x256 .fp8e4m3) // ∀ (E : Set ℕ) (f_arg2 : BufTy.Contents (Elt F) arg2.view.ty) (f_arg3 : BufTy.Contents (Elt F) arg3.view.ty),
      Trip_k0_t2 (F := F) c arg8 arg2 arg3 X_arg8 f_arg2 f_arg3
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 v5105 v5110 k PUnit.unit)
          (fun _ => Trip_k0_t2 (F := F) c arg8 arg2 arg3 X_arg8 (arg2.view.writes (Elt F) f_arg2 L_arg2) (arg3.view.writes (Elt F) f_arg3 L_arg3)) } := by
  have hk : k.val < 28 := Nat.lt_of_lt_of_le k.isLt k0_t2_abs.2.1
  refine ⟨?_, ?_, fun E f_arg2 f_arg3 => ?run⟩
  case run =>
    unfold k0_t2_body
    iintro ⟨HR_arg8, HW_arg2, HW_arg3⟩
    sl_exec
    sl_step
    sl_close

/-- The trip's piece lists (plain projections of `trip_…`, for the recursion below to cite without
   its proof). -/
abbrev tripL_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : Fin k0_t2_loop.trips) : List (View.Piece (Elt F) S256x14336 .i8) × List (View.Piece (Elt F) S14336x256 .fp8e4m3) :=
  ((trip_k0_t2 (F := F) 𝒱 c bd arg0 harg0 arg1 harg1 arg2 harg2 arg3 harg3 arg4 harg4 arg5 harg5 arg6 harg6 arg7 harg7 arg8 harg8 arg9 harg9 arg10 v5105 v5110 X_arg8 k).1, (trip_k0_t2 (F := F) 𝒱 c bd arg0 harg0 arg1 harg1 arg2 harg2 arg3 harg3 arg4 harg4 arg5 harg5 arg6 harg6 arg7 harg7 arg8 harg8 arg9 harg9 arg10 v5105 v5110 X_arg8 k).2.1)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : ℕ) (prev : List (View.Piece (Elt F) S256x14336 .i8) × List (View.Piece (Elt F) S14336x256 .fp8e4m3)) : List (View.Piece (Elt F) S256x14336 .i8) × List (View.Piece (Elt F) S14336x256 .fp8e4m3) :=
  if h : k < k0_t2_loop.trips then
    ((tripL_k0_t2 (F := F) 𝒱 c bd arg0 harg0 arg1 harg1 arg2 harg2 arg3 harg3 arg4 harg4 arg5 harg5 arg6 harg6 arg7 harg7 arg8 harg8 arg9 harg9 arg10 v5105 v5110 X_arg8 ⟨k, h⟩).1 ++ prev.1, (tripL_k0_t2 (F := F) 𝒱 c bd arg0 harg0 arg1 harg1 arg2 harg2 arg3 harg3 arg4 harg4 arg5 harg5 arg6 harg6 arg7 harg7 arg8 harg8 arg9 harg9 arg10 v5105 v5110 X_arg8 ⟨k, h⟩).2 ++ prev.2)
  else prev

/-- The pieces of the trips before `k` (last first), per written memref. -/
def pb_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) : ℕ → List (View.Piece (Elt F) S256x14336 .i8) × List (View.Piece (Elt F) S14336x256 .fp8e4m3)
  | 0 => ([], [])
  | k + 1 => pb_k0_t2Step 𝒱 c bd arg0 harg0 arg1 harg1 arg2 harg2 arg3 harg3 arg4 harg4 arg5 harg5 arg6 harg6 arg7 harg7 arg8 harg8 arg9 harg9 arg10 v5105 v5110 X_arg8 k (pb_k0_t2 𝒱 c bd arg0 harg0 arg1 harg1 arg2 harg2 arg3 harg3 arg4 harg4 arg5 harg5 arg6 harg6 arg7 harg7 arg8 harg8 arg9 harg9 arg10 v5105 v5110 X_arg8 k)

theorem pb_k0_t2_succ (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : Fin k0_t2_loop.trips) :
    pb_k0_t2 (F := F) 𝒱 c bd arg0 harg0 arg1 harg1 arg2 harg2 arg3 harg3 arg4 harg4 arg5 harg5 arg6 harg6 arg7 harg7 arg8 harg8 arg9 harg9 arg10 v5105 v5110 X_arg8 (k.val + 1)
      = ((tripL_k0_t2 (F := F) 𝒱 c bd arg0 harg0 arg1 harg1 arg2 harg2 arg3 harg3 arg4 harg4 arg5 harg5 arg6 harg6 arg7 harg7 arg8 harg8 arg9 harg9 arg10 v5105 v5110 X_arg8 k).1 ++ (pb_k0_t2 (F := F) 𝒱 c bd arg0 harg0 arg1 harg1 arg2 harg2 arg3 harg3 arg4 harg4 arg5 harg5 arg6 harg6 arg7 harg7 arg8 harg8 arg9 harg9 arg10 v5105 v5110 X_arg8 k.val).1, (tripL_k0_t2 (F := F) 𝒱 c bd arg0 harg0 arg1 harg1 arg2 harg2 arg3 harg3 arg4 harg4 arg5 harg5 arg6 harg6 arg7 harg7 arg8 harg8 arg9 harg9 arg10 v5105 v5110 X_arg8 k).2 ++ (pb_k0_t2 (F := F) 𝒱 c bd arg0 harg0 arg1 harg1 arg2 harg2 arg3 harg3 arg4 harg4 arg5 harg5 arg6 harg6 arg7 harg7 arg8 harg8 arg9 harg9 arg10 v5105 v5110 X_arg8 k.val).2) := by
  rw [pb_k0_t2.eq_2]; unfold pb_k0_t2Step; exact dif_pos k.isLt

/-- THE INVARIANT before trip `k`: arg8 read at `X_·`; arg2, arg3 holding the pieces of the trips
   before `k` written over the contents at loop entry `G_·` (stated `∃ f, … ∗ ⌜f = …⌝`, so that a
   hypothesis of any contents matches and the equation is what is proved). -/
abbrev inv_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (G_arg2 : BufTy.Contents (Elt F) arg2.view.ty) (G_arg3 : BufTy.Contents (Elt F) arg3.view.ty) (k : ℕ) (_u : PUnit) : sProp 𝕄G :=
  iprop((arg8.view.loc (c : Thread nD τ) ↦[arg8.view.set]{fullShare} X_arg8) ∗ (∃ f, (arg2.view.loc (c : Thread nD τ) ↦[arg2.view.set]{fullShare} f) ∗ ⌜f = arg2.view.writes (Elt F) G_arg2 (pb_k0_t2 (F := F) 𝒱 c bd arg0 harg0 arg1 harg1 arg2 harg2 arg3 harg3 arg4 harg4 arg5 harg5 arg6 harg6 arg7 harg7 arg8 harg8 arg9 harg9 arg10 v5105 v5110 X_arg8 k).1⌝) ∗ (∃ f, (arg3.view.loc (c : Thread nD τ) ↦[arg3.view.set]{fullShare} f) ∗ ⌜f = arg3.view.writes (Elt F) G_arg3 (pb_k0_t2 (F := F) 𝒱 c bd arg0 harg0 arg1 harg1 arg2 harg2 arg3 harg3 arg4 harg4 arg5 harg5 arg6 harg6 arg7 harg7 arg8 harg8 arg9 harg9 arg10 v5105 v5110 X_arg8 k).2⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (G_arg2 : BufTy.Contents (Elt F) arg2.view.ty) (G_arg3 : BufTy.Contents (Elt F) arg3.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 v5105 v5110 where
  inv := inv_k0_t2 (F := F) 𝒱 c bd arg0 harg0 arg1 harg1 arg2 harg2 arg3 harg3 arg4 harg4 arg5 harg5 arg6 harg6 arg7 harg7 arg8 harg8 arg9 harg9 arg10 v5105 v5110 X_arg8 G_arg2 G_arg3
  step k acc := by
    iintro ⟨HR_arg8, ⟨%f_arg2, HW_arg2, %h_arg2⟩, ⟨%f_arg3, HW_arg3, %h_arg3⟩⟩
    iapply (wp_wand_r Idealize.ShloMosaic.frame (wpE (defs₀ (F := F)) 𝒱 (c : Thread nD τ) bd) E)
    isplitl [HR_arg8 HW_arg2 HW_arg3]
    · iapply ((trip_k0_t2 (F := F) 𝒱 c bd arg0 harg0 arg1 harg1 arg2 harg2 arg3 harg3 arg4 harg4 arg5 harg5 arg6 harg6 arg7 harg7 arg8 harg8 arg9 harg9 arg10 v5105 v5110 X_arg8 k).2.2 E f_arg2 f_arg3)
      isplitl [HR_arg8]; · iexact HR_arg8
      isplitl [HW_arg2]; · iexact HW_arg2
      iexact HW_arg3
    · iintro %_ ⟨HR_arg8, HW_arg2, HW_arg3⟩
      isplitl [HR_arg8]; · iexact HR_arg8
      rw [pb_k0_t2_succ]
      isplitl [HW_arg2]
      · iexists _; isplitl [HW_arg2]; · iexact HW_arg2
        ipureintro; rw [h_arg2, ← View.writes_append]
      iexists _; isplitl [HW_arg3]; · iexact HW_arg3
      ipureintro; rw [h_arg3, ← View.writes_append]

/-- The class of invariants of `k0_part234`'s counted loop `k0_t1_loop` (`%5098:4 = scf.for %arg11 =
   %c0_i32_4120 to %5097 step %c1_i32_4121 iter_args(%arg12 = %5092, %arg13 = %5094, %arg14 = %5092,
   %arg15 = %5096) -> (vector<8x128xf32>, vector<8x128xf32>, vector<8x128xf32>, vector<8x128xf32>) :
   i32 {`), trip `k0_t1`, carrying `FVec F S8x128 .f32 × FVec F S8x128 .f32 × FVec F S8x128 .f32 ×
   FVec F S8x128 .f32`, region `Gen.k0_t1_body`. Classifier: AFFINE — every store at a `Rect.unit`
   whose offsets are a stated closed form of the trips, no rectangle computed from the carried
   value, no transfer or conditional inside: the invariant is the pieces of the trips before `k`. The region loads back what it stores into `arg8` (an
   accumulation): each trip's pieces are stated as functions of the contents it finds there. The
   same recursion (`Gen.st_k0_t1`) gives the carried value before trip `k`, each trip's yield a
   function the run finds. One trip calls the parts `k0_part25`, `k0_part26`, `k0_part27`,
   `k0_part28`, `k0_part29`, `k0_part30`, `k0_part31`, `k0_part32`, `k0_part33`, `k0_part34`,
   `k0_part35`, `k0_part36`, `k0_part37`, `k0_part38`, `k0_part39`, `k0_part40`, `k0_part41`,
   `k0_part42`, `k0_part43`, `k0_part44`. Per trip it STORES through arg8 at (k0_off1 k0_t1); arg8
   at (k0_off2 k0_t1); arg8 at (k0_off3 k0_t1); arg8 at (k0_off4 k0_t1); arg8 at (k0_off5 k0_t1);
   arg8 at (k0_off6 k0_t1); arg8 at (k0_off7 k0_t1); arg8 at (k0_off8 k0_t1); arg8 at (k0_off9
   k0_t1); arg8 at (k0_off10 k0_t1); arg8 at (k0_off11 k0_t1); arg8 at (k0_off12 k0_t1); and 52
   more. It LOADS through arg8 at (k0_off1 k0_t1); arg8 at (k0_off2 k0_t1); arg8 at (k0_off3 k0_t1);
   arg8 at (k0_off4 k0_t1); arg8 at (k0_off5 k0_t1); arg8 at (k0_off6 k0_t1); arg8 at (k0_off7
   k0_t1); arg8 at (k0_off8 k0_t1); arg8 at (k0_off9 k0_t1); arg8 at (k0_off10 k0_t1); arg8 at
   (k0_off11 k0_t1); arg8 at (k0_off12 k0_t1); and more. Below: `Gen.loopInv_k0_t1`
   (`@[sl_loop]`), at the frame kit's algebra. -/
abbrev LoopInvTy_k0_t1 (Ix Name U Lvl : Type) [DecidableEq Ix] [DecidableEq Name] [RA.URA U] [Preorder Lvl]
    (𝒱 : Variants) (c : Dev nD) (bd : Option 𝒱.V) (E : Set Name) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (init : FVec F S8x128 .f32 × FVec F S8x128 .f32 × FVec F S8x128 .f32 × FVec F S8x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 arg10 v571 v5075 v5077 cst_4104)

/-! ### `k0_t1_loop`: its invariant -/

/-- One trip's resources: what the region reads (nothing) at its contents, what it writes (arg8) at
   any. -/
abbrev Trip_k0_t1 (c : Dev nD) (arg8 : Memref sig .tc .vmem S32x448x256 .f32) (f_arg8 : BufTy.Contents (Elt F) arg8.view.ty) : sProp 𝕄G :=
  iprop((arg8.view.loc (c : Thread nD τ) ↦[arg8.view.set]{fullShare} f_arg8))

/-- ONE TRIP of `k0_t1_loop` at a symbolic `k` and carried value `acc`, run by `sl_exec` (its
   rectangles' offsets closed forms of `k`, their geometry linear arithmetic): what it yields and
   the pieces it writes into arg8 are the run's own finds — the witnesses `sl_close` assigns handing
   the buffers to the continuation, as functions of the carried value and of the contents the trip
   finds in the memrefs it writes (the region loads some of them back). `@[irreducible]`: cited,
   never unfolded. -/
@[irreducible] def trip_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (k : Fin k0_t1_loop.trips) :
    Σ' (R_k0_t1 : ((FVec F S8x128 .f32 × FVec F S8x128 .f32 × FVec F S8x128 .f32 × FVec F S8x128 .f32) → BufTy.Contents (Elt F) arg8.view.ty → FVec F S8x128 .f32 × FVec F S8x128 .f32 × FVec F S8x128 .f32 × FVec F S8x128 .f32)) , { L_arg8 : ((FVec F S8x128 .f32 × FVec F S8x128 .f32 × FVec F S8x128 .f32 × FVec F S8x128 .f32) → BufTy.Contents (Elt F) arg8.view.ty → List (View.Piece (Elt F) S32x448x256 .f32)) // ∀ (E : Set ℕ) (acc : FVec F S8x128 .f32 × FVec F S8x128 .f32 × FVec F S8x128 .f32 × FVec F S8x128 .f32) (f_arg8 : BufTy.Contents (Elt F) arg8.view.ty),
      Trip_k0_t1 (F := F) c arg8 f_arg8
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 v571 v5075 v5077 cst_4104 k acc)
          (fun yld => iprop(⌜yld = R_k0_t1 acc f_arg8⌝ ∗ Trip_k0_t1 (F := F) c arg8 (arg8.view.writes (Elt F) f_arg8 (L_arg8 acc f_arg8)))) } := by
  have hk : k.val < 56 := Nat.lt_of_lt_of_le k.isLt k0_t1_abs.2.1
  refine ⟨?_, ?_, fun E acc f_arg8 => ?run⟩
  case run =>
    unfold k0_t1_body
    iintro HW_arg8
    sl_exec
    sl_step
    sl_close

/-- The trip's result (a plain projection of `trip_…`, for the recursion below to cite without its
   proof). -/
abbrev tripR_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (k : Fin k0_t1_loop.trips) (acc : FVec F S8x128 .f32 × FVec F S8x128 .f32 × FVec F S8x128 .f32 × FVec F S8x128 .f32) (f_arg8 : BufTy.Contents (Elt F) arg8.view.ty) : FVec F S8x128 .f32 × FVec F S8x128 .f32 × FVec F S8x128 .f32 × FVec F S8x128 .f32 :=
  (trip_k0_t1 (F := F) 𝒱 c bd arg0 harg0 arg1 harg1 arg2 harg2 arg3 harg3 arg4 harg4 arg5 harg5 arg6 harg6 arg7 harg7 arg8 harg8 arg9 harg9 arg10 v571 v5075 v5077 cst_4104 k).1 acc f_arg8

/-- The trip's piece lists (plain projections of `trip_…`, for the recursion below to cite without
   its proof), at the carried value and the contents the trip finds in the written memrefs. -/
abbrev tripL_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (k : Fin k0_t1_loop.trips) (acc : FVec F S8x128 .f32 × FVec F S8x128 .f32 × FVec F S8x128 .f32 × FVec F S8x128 .f32) (f_arg8 : BufTy.Contents (Elt F) arg8.view.ty) : List (View.Piece (Elt F) S32x448x256 .f32) :=
  (trip_k0_t1 (F := F) 𝒱 c bd arg0 harg0 arg1 harg1 arg2 harg2 arg3 harg3 arg4 harg4 arg5 harg5 arg6 harg6 arg7 harg7 arg8 harg8 arg9 harg9 arg10 v571 v5075 v5077 cst_4104 k).2.1 acc f_arg8

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) (k : ℕ) (prev : (FVec F S8x128 .f32 × FVec F S8x128 .f32 × FVec F S8x128 .f32 × FVec F S8x128 .f32) × List (View.Piece (Elt F) S32x448x256 .f32)) : (FVec F S8x128 .f32 × FVec F S8x128 .f32 × FVec F S8x128 .f32 × FVec F S8x128 .f32) × List (View.Piece (Elt F) S32x448x256 .f32) :=
  if h : k < k0_t1_loop.trips then
    (tripR_k0_t1 (F := F) 𝒱 c bd arg0 harg0 arg1 harg1 arg2 harg2 arg3 harg3 arg4 harg4 arg5 harg5 arg6 harg6 arg7 harg7 arg8 harg8 arg9 harg9 arg10 v571 v5075 v5077 cst_4104 ⟨k, h⟩ prev.1 (arg8.view.writes (Elt F) G_arg8 prev.2), (tripL_k0_t1 (F := F) 𝒱 c bd arg0 harg0 arg1 harg1 arg2 harg2 arg3 harg3 arg4 harg4 arg5 harg5 arg6 harg6 arg7 harg7 arg8 harg8 arg9 harg9 arg10 v571 v5075 v5077 cst_4104 ⟨k, h⟩ prev.1 (arg8.view.writes (Elt F) G_arg8 prev.2)) ++ prev.2)
  else prev

/-- The STATE before trip `k`: the carried value and, per written memref, the pieces of the trips
   before (last first), starting from the contents `G_·` at loop entry; each trip's pieces taken at
   the contents the earlier trips left. -/
def st_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) : ℕ → (FVec F S8x128 .f32 × FVec F S8x128 .f32 × FVec F S8x128 .f32 × FVec F S8x128 .f32) × List (View.Piece (Elt F) S32x448x256 .f32)
  | 0 => (init, [])
  | k + 1 => st_k0_t1Step 𝒱 c bd arg0 harg0 arg1 harg1 arg2 harg2 arg3 harg3 arg4 harg4 arg5 harg5 arg6 harg6 arg7 harg7 arg8 harg8 arg9 harg9 arg10 v571 v5075 v5077 cst_4104 G_arg8 init k (st_k0_t1 𝒱 c bd arg0 harg0 arg1 harg1 arg2 harg2 arg3 harg3 arg4 harg4 arg5 harg5 arg6 harg6 arg7 harg7 arg8 harg8 arg9 harg9 arg10 v571 v5075 v5077 cst_4104 G_arg8 init k)

theorem st_k0_t1_succ (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) (k : Fin k0_t1_loop.trips) :
    st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init (k.val + 1)
      = ((tripR_k0_t1 (F := F) 𝒱 c bd arg0 harg0 arg1 harg1 arg2 harg2 arg3 harg3 arg4 harg4 arg5 harg5 arg6 harg6 arg7 harg7 arg8 harg8 arg9 harg9 arg10 v571 v5075 v5077 cst_4104 k (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).1 (arg8.view.writes (Elt F) G_arg8 (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).2)), (tripL_k0_t1 (F := F) 𝒱 c bd arg0 harg0 arg1 harg1 arg2 harg2 arg3 harg3 arg4 harg4 arg5 harg5 arg6 harg6 arg7 harg7 arg8 harg8 arg9 harg9 arg10 v571 v5075 v5077 cst_4104 k (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).1 (arg8.view.writes (Elt F) G_arg8 (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).2)) ++ (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) :
    (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init 0).1 = init := rfl

/-- THE INVARIANT before trip `k`: nothing read at `X_·`; arg8 holding the pieces of the trips
   before `k` written over the contents at loop entry `G_·` (stated `∃ f, … ∗ ⌜f = …⌝`, so that a
   hypothesis of any contents matches and the equation is what is proved); and `acc` equal to the
   state's carried value (an equation the run substitutes after the loop). -/
abbrev inv_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) (k : ℕ) (acc : FVec F S8x128 .f32 × FVec F S8x128 .f32 × FVec F S8x128 .f32 × FVec F S8x128 .f32) : sProp 𝕄G :=
  iprop((∃ f, (arg8.view.loc (c : Thread nD τ) ↦[arg8.view.set]{fullShare} f) ∗ ⌜f = arg8.view.writes (Elt F) G_arg8 (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k).2⌝) ∗ ⌜acc = (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k).1⌝)

set_option warn.classDefReducibility false in
/-- THE LOOP BY ITS INVARIANT (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 v571 v5075 v5077 cst_4104 init where
  inv := inv_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init
  step k acc := by
    iintro ⟨⟨%f_arg8, HW_arg8, %h_arg8⟩, %h_acc⟩
    subst h_acc
    iapply (wp_wand_r Idealize.ShloMosaic.frame (wpE (defs₀ (F := F)) 𝒱 (c : Thread nD τ) bd) E)
    isplitl [HW_arg8]
    · iapply ((trip_k0_t1 (F := F) 𝒱 c bd arg0 harg0 arg1 harg1 arg2 harg2 arg3 harg3 arg4 harg4 arg5 harg5 arg6 harg6 arg7 harg7 arg8 harg8 arg9 harg9 arg10 v571 v5075 v5077 cst_4104 k).2.2 E (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k).1 f_arg8)
      iexact HW_arg8
    · iintro %yld ⟨%h_res, HW_arg8⟩
      unfold inv_k0_t1
      simp only [st_k0_t1_succ]
      isplitl [HW_arg8]
      · iexists _; isplitl [HW_arg8]; · iexact HW_arg8
        ipureintro; rw [h_arg8, ← View.writes_append]
      ipureintro; rw [h_res, h_arg8]

end Cert.RotKernel.Gen

end
-- ==== Proof.BitsRotRun.lean ====
/-
   The run of the rotation call's body, in program `RotKernel`: 112 copies started on four semaphores, 28 to each, before the first is waited for; the four guarded
   blocks; the two loops. The windows stand apart, so that each copy takes its own and every wait gives 28 of them back.
-/
module

public import proofs.«01_k».proof.Proof.BitsRotWindows
public import proofs.«01_k».proof.Proof.BitsRotLoops
public import Idealize.ShloMosaic.Lib.Batch

@[expose] public section

set_option maxRecDepth 16384

noncomputable section

namespace Cert.RotKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in
set_option sl_exec.maxSteps 0 in
set_option sl_exec.stepHeartbeats 1000000 in
set_option sl_exec.dmaWindow true in
set_option sl_exec.dmaWindowSet true in
/-- The body's triple: on whole staging memrefs — the inputs' at their contents,
    the FORGOTTEN outputs' (1, 2, 3, 4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole)
    (fv : HbBuf0 (F := F) c scM0_0) (x0 : Vec F S28x28 .f32) (fh0 : HbBuf0 (F := F) c hbM0_0) :
      ∀ (W : Waits sig Unit) (K : PUnit → sProp 𝕄),
        iprop(wins c scM0_0 fv ∗ wins c hbM0_0 fh0 ∗ owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ owes (c : Thread nD τ) 0 W
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ winsE c scM0_0 ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ wins c hbM0_0 fh0 ∗ (∃ W', owes (c : Thread nD τ) 0 W')) -∗ K ⟨⟩))
          ⊢ wp frame (wpE (defs₀ (F := F)) Variants.none c none) Set.univ (cc0_rot_quant (Memref.whole main_v0) (Memref.isWhole_whole _) arg1 harg1 arg2 harg2 arg3 harg3 arg4 harg4 arg5 harg5 scM0_0 (Memref.isWhole_whole _) arg7 harg7 arg8 harg8 arg9 harg9 cc0_scratch4) K := by
    intro W K
    have P0 : Transfers.BatchOf (c : Thread nD τ) (SemLoc.dma (sig := sig) 5) 28 := trivial
    have P1 : Transfers.BatchOf (c : Thread nD τ) (SemLoc.dma (sig := sig) 6) 28 := trivial
    have P2 : Transfers.BatchOf (c : Thread nD τ) (SemLoc.dma (sig := sig) 7) 28 := trivial
    have P3 : Transfers.BatchOf (c : Thread nD τ) (SemLoc.dma (sig := sig) 8) 28 := trivial
    simp only [cc0_rot_quant_eq_skeleton]; unfold cc0_rot_quant_skel
    unfold owns wins
    iintro ⟨⟨HV0, HV512, HV1024, HV1536, HV2048, HV2560, HV3072, HV3584, HV4096, HV4608, HV5120, HV5632, HV6144, HV6656, HV7168, HV7680, HV8192, HV8704, HV9216, HV9728, HV10240, HV10752, HV11264, HV11776, HV12288, HV12800, HV13312, HV13824, HV128, HV640, HV1152, HV1664, HV2176, HV2688, HV3200, HV3712, HV4224, HV4736, HV5248, HV5760, HV6272, HV6784, HV7296, HV7808, HV8320, HV8832, HV9344, HV9856, HV10368, HV10880, HV11392, HV11904, HV12416, HV12928, HV13440, HV13952, HV256, HV768, HV1280, HV1792, HV2304, HV2816, HV3328, HV3840, HV4352, HV4864, HV5376, HV5888, HV6400, HV6912, HV7424, HV7936, HV8448, HV8960, HV9472, HV9984, HV10496, HV11008, HV11520, HV12032, HV12544, HV13056, HV13568, HV14080, HV384, HV896, HV1408, HV1920, HV2432, HV2944, HV3456, HV3968, HV4480, HV4992, HV5504, HV6016, HV6528, HV7040, HV7552, HV8064, HV8576, HV9088, HV9600, HV10112, HV10624, HV11136, HV11648, HV12160, HV12672, HV13184, HV13696, HV14208⟩, ⟨HX0, HX512, HX1024, HX1536, HX2048, HX2560, HX3072, HX3584, HX4096, HX4608, HX5120, HX5632, HX6144, HX6656, HX7168, HX7680, HX8192, HX8704, HX9216, HX9728, HX10240, HX10752, HX11264, HX11776, HX12288, HX12800, HX13312, HX13824, HX128, HX640, HX1152, HX1664, HX2176, HX2688, HX3200, HX3712, HX4224, HX4736, HX5248, HX5760, HX6272, HX6784, HX7296, HX7808, HX8320, HX8832, HX9344, HX9856, HX10368, HX10880, HX11392, HX11904, HX12416, HX12928, HX13440, HX13952, HX256, HX768, HX1280, HX1792, HX2304, HX2816, HX3328, HX3840, HX4352, HX4864, HX5376, HX5888, HX6400, HX6912, HX7424, HX7936, HX8448, HX8960, HX9472, HX9984, HX10496, HX11008, HX11520, HX12032, HX12544, HX13056, HX13568, HX14080, HX384, HX896, HX1408, HX1920, HX2432, HX2944, HX3456, HX3968, HX4480, HX4992, HX5504, HX6016, HX6528, HX7040, HX7552, HX8064, HX8576, HX9088, HX9600, HX10112, HX10624, HX11136, HX11648, HX12160, HX12672, HX13184, HX13696, HX14208⟩, ⟨%f0, %hf0, H0⟩, ⟨%d1, %f1, -, H1⟩, ⟨%d2, %f2, -, H2⟩, ⟨%d3, %f3, -, H3⟩, ⟨%d4, %f4, -, H4⟩, ⟨%ds1, %fs1, -, HS1⟩, ⟨%ds2, %fs2, -, HS2⟩, ⟨%ds3, %fs3, -, HS3⟩, Hq0, Hq1, Hq2, Hq3, HW, Hk⟩
    obtain rfl := harg1.eq_unread hf0
    sl_exec
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HV0 HV512 HV1024 HV1536 HV2048 HV2560 HV3072 HV3584 HV4096 HV4608 HV5120 HV5632 HV6144 HV6656 HV7168 HV7680 HV8192 HV8704 HV9216 HV9728 HV10240 HV10752 HV11264 HV11776 HV12288 HV12800 HV13312 HV13824 HV128 HV640 HV1152 HV1664 HV2176 HV2688 HV3200 HV3712 HV4224 HV4736 HV5248 HV5760 HV6272 HV6784 HV7296 HV7808 HV8320 HV8832 HV9344 HV9856 HV10368 HV10880 HV11392 HV11904 HV12416 HV12928 HV13440 HV13952 HV256 HV768 HV1280 HV1792 HV2304 HV2816 HV3328 HV3840 HV4352 HV4864 HV5376 HV5888 HV6400 HV6912 HV7424 HV7936 HV8448 HV8960 HV9472 HV9984 HV10496 HV11008 HV11520 HV12032 HV12544 HV13056 HV13568 HV14080 HV384 HV896 HV1408 HV1920 HV2432 HV2944 HV3456 HV3968 HV4480 HV4992 HV5504 HV6016 HV6528 HV7040 HV7552 HV8064 HV8576 HV9088 HV9600 HV10112 HV10624 HV11136 HV11648 HV12160 HV12672 HV13184 HV13696 HV14208]
    · unfold winsE
      isplitl [HV0]; · iexists _; iexact HV0
      isplitl [HV512]; · iexists _; iexact HV512
      isplitl [HV1024]; · iexists _; iexact HV1024
      isplitl [HV1536]; · iexists _; iexact HV1536
      isplitl [HV2048]; · iexists _; iexact HV2048
      isplitl [HV2560]; · iexists _; iexact HV2560
      isplitl [HV3072]; · iexists _; iexact HV3072
      isplitl [HV3584]; · iexists _; iexact HV3584
      isplitl [HV4096]; · iexists _; iexact HV4096
      isplitl [HV4608]; · iexists _; iexact HV4608
      isplitl [HV5120]; · iexists _; iexact HV5120
      isplitl [HV5632]; · iexists _; iexact HV5632
      isplitl [HV6144]; · iexists _; iexact HV6144
      isplitl [HV6656]; · iexists _; iexact HV6656
      isplitl [HV7168]; · iexists _; iexact HV7168
      isplitl [HV7680]; · iexists _; iexact HV7680
      isplitl [HV8192]; · iexists _; iexact HV8192
      isplitl [HV8704]; · iexists _; iexact HV8704
      isplitl [HV9216]; · iexists _; iexact HV9216
      isplitl [HV9728]; · iexists _; iexact HV9728
      isplitl [HV10240]; · iexists _; iexact HV10240
      isplitl [HV10752]; · iexists _; iexact HV10752
      isplitl [HV11264]; · iexists _; iexact HV11264
      isplitl [HV11776]; · iexists _; iexact HV11776
      isplitl [HV12288]; · iexists _; iexact HV12288
      isplitl [HV12800]; · iexists _; iexact HV12800
      isplitl [HV13312]; · iexists _; iexact HV13312
      isplitl [HV13824]; · iexists _; iexact HV13824
      isplitl [HV128]; · iexists _; iexact HV128
      isplitl [HV640]; · iexists _; iexact HV640
      isplitl [HV1152]; · iexists _; iexact HV1152
      isplitl [HV1664]; · iexists _; iexact HV1664
      isplitl [HV2176]; · iexists _; iexact HV2176
      isplitl [HV2688]; · iexists _; iexact HV2688
      isplitl [HV3200]; · iexists _; iexact HV3200
      isplitl [HV3712]; · iexists _; iexact HV3712
      isplitl [HV4224]; · iexists _; iexact HV4224
      isplitl [HV4736]; · iexists _; iexact HV4736
      isplitl [HV5248]; · iexists _; iexact HV5248
      isplitl [HV5760]; · iexists _; iexact HV5760
      isplitl [HV6272]; · iexists _; iexact HV6272
      isplitl [HV6784]; · iexists _; iexact HV6784
      isplitl [HV7296]; · iexists _; iexact HV7296
      isplitl [HV7808]; · iexists _; iexact HV7808
      isplitl [HV8320]; · iexists _; iexact HV8320
      isplitl [HV8832]; · iexists _; iexact HV8832
      isplitl [HV9344]; · iexists _; iexact HV9344
      isplitl [HV9856]; · iexists _; iexact HV9856
      isplitl [HV10368]; · iexists _; iexact HV10368
      isplitl [HV10880]; · iexists _; iexact HV10880
      isplitl [HV11392]; · iexists _; iexact HV11392
      isplitl [HV11904]; · iexists _; iexact HV11904
      isplitl [HV12416]; · iexists _; iexact HV12416
      isplitl [HV12928]; · iexists _; iexact HV12928
      isplitl [HV13440]; · iexists _; iexact HV13440
      isplitl [HV13952]; · iexists _; iexact HV13952
      isplitl [HV256]; · iexists _; iexact HV256
      isplitl [HV768]; · iexists _; iexact HV768
      isplitl [HV1280]; · iexists _; iexact HV1280
      isplitl [HV1792]; · iexists _; iexact HV1792
      isplitl [HV2304]; · iexists _; iexact HV2304
      isplitl [HV2816]; · iexists _; iexact HV2816
      isplitl [HV3328]; · iexists _; iexact HV3328
      isplitl [HV3840]; · iexists _; iexact HV3840
      isplitl [HV4352]; · iexists _; iexact HV4352
      isplitl [HV4864]; · iexists _; iexact HV4864
      isplitl [HV5376]; · iexists _; iexact HV5376
      isplitl [HV5888]; · iexists _; iexact HV5888
      isplitl [HV6400]; · iexists _; iexact HV6400
      isplitl [HV6912]; · iexists _; iexact HV6912
      isplitl [HV7424]; · iexists _; iexact HV7424
      isplitl [HV7936]; · iexists _; iexact HV7936
      isplitl [HV8448]; · iexists _; iexact HV8448
      isplitl [HV8960]; · iexists _; iexact HV8960
      isplitl [HV9472]; · iexists _; iexact HV9472
      isplitl [HV9984]; · iexists _; iexact HV9984
      isplitl [HV10496]; · iexists _; iexact HV10496
      isplitl [HV11008]; · iexists _; iexact HV11008
      isplitl [HV11520]; · iexists _; iexact HV11520
      isplitl [HV12032]; · iexists _; iexact HV12032
      isplitl [HV12544]; · iexists _; iexact HV12544
      isplitl [HV13056]; · iexists _; iexact HV13056
      isplitl [HV13568]; · iexists _; iexact HV13568
      isplitl [HV14080]; · iexists _; iexact HV14080
      isplitl [HV384]; · iexists _; iexact HV384
      isplitl [HV896]; · iexists _; iexact HV896
      isplitl [HV1408]; · iexists _; iexact HV1408
      isplitl [HV1920]; · iexists _; iexact HV1920
      isplitl [HV2432]; · iexists _; iexact HV2432
      isplitl [HV2944]; · iexists _; iexact HV2944
      isplitl [HV3456]; · iexists _; iexact HV3456
      isplitl [HV3968]; · iexists _; iexact HV3968
      isplitl [HV4480]; · iexists _; iexact HV4480
      isplitl [HV4992]; · iexists _; iexact HV4992
      isplitl [HV5504]; · iexists _; iexact HV5504
      isplitl [HV6016]; · iexists _; iexact HV6016
      isplitl [HV6528]; · iexists _; iexact HV6528
      isplitl [HV7040]; · iexists _; iexact HV7040
      isplitl [HV7552]; · iexists _; iexact HV7552
      isplitl [HV8064]; · iexists _; iexact HV8064
      isplitl [HV8576]; · iexists _; iexact HV8576
      isplitl [HV9088]; · iexists _; iexact HV9088
      isplitl [HV9600]; · iexists _; iexact HV9600
      isplitl [HV10112]; · iexists _; iexact HV10112
      isplitl [HV10624]; · iexists _; iexact HV10624
      isplitl [HV11136]; · iexists _; iexact HV11136
      isplitl [HV11648]; · iexists _; iexact HV11648
      isplitl [HV12160]; · iexists _; iexact HV12160
      isplitl [HV12672]; · iexists _; iexact HV12672
      isplitl [HV13184]; · iexists _; iexact HV13184
      isplitl [HV13696]; · iexists _; iexact HV13696
      iexists _; iexact HV14208
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [HX0 HX512 HX1024 HX1536 HX2048 HX2560 HX3072 HX3584 HX4096 HX4608 HX5120 HX5632 HX6144 HX6656 HX7168 HX7680 HX8192 HX8704 HX9216 HX9728 HX10240 HX10752 HX11264 HX11776 HX12288 HX12800 HX13312 HX13824 HX128 HX640 HX1152 HX1664 HX2176 HX2688 HX3200 HX3712 HX4224 HX4736 HX5248 HX5760 HX6272 HX6784 HX7296 HX7808 HX8320 HX8832 HX9344 HX9856 HX10368 HX10880 HX11392 HX11904 HX12416 HX12928 HX13440 HX13952 HX256 HX768 HX1280 HX1792 HX2304 HX2816 HX3328 HX3840 HX4352 HX4864 HX5376 HX5888 HX6400 HX6912 HX7424 HX7936 HX8448 HX8960 HX9472 HX9984 HX10496 HX11008 HX11520 HX12032 HX12544 HX13056 HX13568 HX14080 HX384 HX896 HX1408 HX1920 HX2432 HX2944 HX3456 HX3968 HX4480 HX4992 HX5504 HX6016 HX6528 HX7040 HX7552 HX8064 HX8576 HX9088 HX9600 HX10112 HX10624 HX11136 HX11648 HX12160 HX12672 HX13184 HX13696 HX14208]
    · isplitl [HX0]; · iexact HX0
      isplitl [HX512]; · iexact HX512
      isplitl [HX1024]; · iexact HX1024
      isplitl [HX1536]; · iexact HX1536
      isplitl [HX2048]; · iexact HX2048
      isplitl [HX2560]; · iexact HX2560
      isplitl [HX3072]; · iexact HX3072
      isplitl [HX3584]; · iexact HX3584
      isplitl [HX4096]; · iexact HX4096
      isplitl [HX4608]; · iexact HX4608
      isplitl [HX5120]; · iexact HX5120
      isplitl [HX5632]; · iexact HX5632
      isplitl [HX6144]; · iexact HX6144
      isplitl [HX6656]; · iexact HX6656
      isplitl [HX7168]; · iexact HX7168
      isplitl [HX7680]; · iexact HX7680
      isplitl [HX8192]; · iexact HX8192
      isplitl [HX8704]; · iexact HX8704
      isplitl [HX9216]; · iexact HX9216
      isplitl [HX9728]; · iexact HX9728
      isplitl [HX10240]; · iexact HX10240
      isplitl [HX10752]; · iexact HX10752
      isplitl [HX11264]; · iexact HX11264
      isplitl [HX11776]; · iexact HX11776
      isplitl [HX12288]; · iexact HX12288
      isplitl [HX12800]; · iexact HX12800
      isplitl [HX13312]; · iexact HX13312
      isplitl [HX13824]; · iexact HX13824
      isplitl [HX128]; · iexact HX128
      isplitl [HX640]; · iexact HX640
      isplitl [HX1152]; · iexact HX1152
      isplitl [HX1664]; · iexact HX1664
      isplitl [HX2176]; · iexact HX2176
      isplitl [HX2688]; · iexact HX2688
      isplitl [HX3200]; · iexact HX3200
      isplitl [HX3712]; · iexact HX3712
      isplitl [HX4224]; · iexact HX4224
      isplitl [HX4736]; · iexact HX4736
      isplitl [HX5248]; · iexact HX5248
      isplitl [HX5760]; · iexact HX5760
      isplitl [HX6272]; · iexact HX6272
      isplitl [HX6784]; · iexact HX6784
      isplitl [HX7296]; · iexact HX7296
      isplitl [HX7808]; · iexact HX7808
      isplitl [HX8320]; · iexact HX8320
      isplitl [HX8832]; · iexact HX8832
      isplitl [HX9344]; · iexact HX9344
      isplitl [HX9856]; · iexact HX9856
      isplitl [HX10368]; · iexact HX10368
      isplitl [HX10880]; · iexact HX10880
      isplitl [HX11392]; · iexact HX11392
      isplitl [HX11904]; · iexact HX11904
      isplitl [HX12416]; · iexact HX12416
      isplitl [HX12928]; · iexact HX12928
      isplitl [HX13440]; · iexact HX13440
      isplitl [HX13952]; · iexact HX13952
      isplitl [HX256]; · iexact HX256
      isplitl [HX768]; · iexact HX768
      isplitl [HX1280]; · iexact HX1280
      isplitl [HX1792]; · iexact HX1792
      isplitl [HX2304]; · iexact HX2304
      isplitl [HX2816]; · iexact HX2816
      isplitl [HX3328]; · iexact HX3328
      isplitl [HX3840]; · iexact HX3840
      isplitl [HX4352]; · iexact HX4352
      isplitl [HX4864]; · iexact HX4864
      isplitl [HX5376]; · iexact HX5376
      isplitl [HX5888]; · iexact HX5888
      isplitl [HX6400]; · iexact HX6400
      isplitl [HX6912]; · iexact HX6912
      isplitl [HX7424]; · iexact HX7424
      isplitl [HX7936]; · iexact HX7936
      isplitl [HX8448]; · iexact HX8448
      isplitl [HX8960]; · iexact HX8960
      isplitl [HX9472]; · iexact HX9472
      isplitl [HX9984]; · iexact HX9984
      isplitl [HX10496]; · iexact HX10496
      isplitl [HX11008]; · iexact HX11008
      isplitl [HX11520]; · iexact HX11520
      isplitl [HX12032]; · iexact HX12032
      isplitl [HX12544]; · iexact HX12544
      isplitl [HX13056]; · iexact HX13056
      isplitl [HX13568]; · iexact HX13568
      isplitl [HX14080]; · iexact HX14080
      isplitl [HX384]; · iexact HX384
      isplitl [HX896]; · iexact HX896
      isplitl [HX1408]; · iexact HX1408
      isplitl [HX1920]; · iexact HX1920
      isplitl [HX2432]; · iexact HX2432
      isplitl [HX2944]; · iexact HX2944
      isplitl [HX3456]; · iexact HX3456
      isplitl [HX3968]; · iexact HX3968
      isplitl [HX4480]; · iexact HX4480
      isplitl [HX4992]; · iexact HX4992
      isplitl [HX5504]; · iexact HX5504
      isplitl [HX6016]; · iexact HX6016
      isplitl [HX6528]; · iexact HX6528
      isplitl [HX7040]; · iexact HX7040
      isplitl [HX7552]; · iexact HX7552
      isplitl [HX8064]; · iexact HX8064
      isplitl [HX8576]; · iexact HX8576
      isplitl [HX9088]; · iexact HX9088
      isplitl [HX9600]; · iexact HX9600
      isplitl [HX10112]; · iexact HX10112
      isplitl [HX10624]; · iexact HX10624
      isplitl [HX11136]; · iexact HX11136
      isplitl [HX11648]; · iexact HX11648
      isplitl [HX12160]; · iexact HX12160
      isplitl [HX12672]; · iexact HX12672
      isplitl [HX13184]; · iexact HX13184
      isplitl [HX13696]; · iexact HX13696
      iexact HX14208
    iexists _; iexact HW

end Cert.RotKernel.Gen

end
-- ==== Proof.BitsRotFrame.lean ====
/-
   The frame of the rotation call, in program `RotKernel`: the proof data, the body obligation, the run of the whole program, and the frame claim.
-/
module

public import proofs.«01_k».proof.Proof.BitsRotRun
public import Idealize.ShloMosaic.Lib.Claim

@[expose] public section

-- membership in a rectangle of production extents (`View.cover_of_tiled`): the elaborator's structural look
-- recurses once per coordinate of the long axes
set_option maxRecDepth 16384

noncomputable section

namespace Cert.RotKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (1, 2, 3, 4): nothing reads what the kernel leaves in them, so nothing
    of it is named (Lib/Pipeline/Dat.lean `Dat.toRForget`). -/
def forgets0 : Fin 5 → Bool := fun w => w.val == 1 || w.val == 2 || w.val == 3 || w.val == 4

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d))

/-- The staged operand's scratch, owned at some contents, is its windows at some contents. -/
theorem scr_owns (c : Dev nD) : (iprop(∃ d, owns (c : Thread nD τ) scM0_0 fullShare d) : sProp 𝕄) = iprop(∃ f, wins c scM0_0 f) := by
  have h : (fun f : HbBuf0 (F := F) c scM0_0 => (hbPt0 c scM0_0 f : sProp 𝕄)) = fun f => wins c scM0_0 f := funext (scr_split c)
  have h' : (iprop(∃ d, owns (c : Thread nD τ) scM0_0 fullShare d) : sProp 𝕄) = iprop(∃ f, hbPt0 c scM0_0 f) := by
    simp only [scM0_0, owns_whole]; try rfl
  exact h'.trans (congrArg _ h)

theorem scr_joinE (c : Dev nD) (f₀ : HbBuf0 (F := F) c scM0_0) : winsE c scM0_0 ⊢ (iprop(∃ f, wins c scM0_0 f) : sProp 𝕄) := by
  have h : (fun f : HbBuf0 (F := F) c scM0_0 => (hbPt0 c scM0_0 f : sProp 𝕄)) = fun f => wins c scM0_0 f := funext (scr_split c)
  exact (scr_join c f₀).trans (Entails.of_eq (congrArg _ h))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0]
  rw [show (dats m 0 c).Φ t.castSucc = Pipeline.ΦD osem0 spec0 H0 (V m) c from rfl, PhiD0_eq, scr_owns]
  unfold Dat.owesAt Pipeline.owesWithin
  rw [show (dats m 0 c).owed t.castSucc = 0 from rfl, show (dats m 0 c).owed t.succ = 0 from rfl, hbm_split]
  iintro ⟨⟨⟨⟨%fv, HS0⟩, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
  iapply ((kernelRun0_A c _ _ _ _ _ _ _ _ _ _ _ _ _ _ _ _ fv (iblk m c 0 t) (V m c main_v0)) W _)
  isplitl [HS0]; · iexact HS0
  isplitl [Hh0]; · iexact Hh0
  isplitl [H0]; · iexact H0
  isplitl [H1]; · iexists _; iexact H1
  isplitl [H2]; · iexists _; iexact H2
  isplitl [H3]; · iexists _; iexact H3
  isplitl [H4]; · iexists _; iexact H4
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [HW]; · iexact HW
  iintro ⟨H0, H1, H2, H3, H4, HS0, HS1, HS2, HS3, Hq0, Hq1, Hq2, Hq3, Hh0, ⟨%W', HW'⟩⟩
  isplitl [HS0 HS1 HS2 HS3 Hg Hq0 Hq1 Hq2 Hq3 Hh0]
  · isplitl [HS0 HS1 HS2 HS3]
    · isplitl [HS0]; · iapply (scr_joinE c fv); iexact HS0
      isplitl [HS1]; · iexact HS1
      isplitl [HS2]; · iexact HS2
      iexact HS3
    isplitl [Hg]
    · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 1, 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_RotKernel`'s statement (Defs.lean) at any `F` — Proof.lean cites it at `Bits`:
    `theorem Cert.Proof.claim : Cert.Claim := ⟨Cert.RotKernel.Gen.facts, fun m ρ _ => Cert.RotKernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.RotKernel.Gen

end
-- ==== Proof.IdealRotRuns.lean ====
/-
   The frame kit of the rotation call, in program `RotKernelIdeal`: what its run is stated over: the program up to the region (`hmain`), the arrays there (`V`), the
   input's block (`iblk`), the frame claim from a frame run (`frame_of`), the staging and scratch buffers, the call's own semaphores,
   and the invariant conjunct by conjunct (`PhiD0_eq`).
-/
module

public import proofs.«01_k».proof.Proof.Gen.RotKernelIdeal.Launch
public import proofs.«01_k».proof.Proof.Gen.RotKernelIdeal.Skeleton
public import proofs.«01_k».proof.Proof.Gen.RotKernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.RotKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_RotKernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S28x28 .f32 := win0_0.stage (cfg0.slots t 0)
abbrev hs0_0 (t : Fin cfg0.N) : (ms0_0 t).IsWhole := hstage0_0 0
abbrev ms0_1 (t : Fin cfg0.N) : Memref sig .tc .vmem S256x14336 .i8 := win0_1.stage (cfg0.slots t 1)
abbrev hs0_1 (t : Fin cfg0.N) : (ms0_1 t).IsWhole := hstage0_1 0
abbrev ms0_2 (t : Fin cfg0.N) : Memref sig .tc .vmem S14336x256 .fp8e4m3 := win0_2.stage (cfg0.slots t 2)
abbrev hs0_2 (t : Fin cfg0.N) : (ms0_2 t).IsWhole := hstage0_2 0
abbrev ms0_3 (t : Fin cfg0.N) : Memref sig .tc .vmem S1x256 .f32 := win0_3.stage (cfg0.slots t 3)
abbrev hs0_3 (t : Fin cfg0.N) : (ms0_3 t).IsWhole := hstage0_3 0
abbrev ms0_4 (t : Fin cfg0.N) : Memref sig .tc .vmem S1x256 .f32 := win0_4.stage (cfg0.slots t 4)
abbrev hs0_4 (t : Fin cfg0.N) : (ms0_4 t).IsWhole := hstage0_4 0
/-- The scratch operands: whole scoped buffers of the kernel's own, passed beside the windows. -/
abbrev scM0_0 : Memref sig .tc .vmem S256x14336 .bf16 := Memref.whole cc0_scratch0
abbrev scM0_1 : Memref sig .tc .vmem S8x448x256 .bf16 := Memref.whole cc0_scratch1
abbrev scM0_2 : Memref sig .tc .vmem S32x448x256 .f32 := Memref.whole cc0_scratch2
abbrev scM0_3 : Memref sig .tc .vmem S3x448x448 .bf16 := Memref.whole cc0_scratch3
/-- The operands left in HBM that the body copies into scratch itself, whole. -/
abbrev hbM0_0 : Memref sig .tc .hbm S256x14336 .bf16 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 5, SemLoc.dma 6, SemLoc.dma 7, SemLoc.dma 8] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_v0))) := by
  rw [Pipeline.ΦD_eq, scopedRest0_eq, ownSems00_eq, hbmPts0_eq]; simp only [scM0_0, scM0_1, scM0_2, scM0_3, owns_whole]; try rfl

end Cert.RotKernelIdeal.Gen

end
-- ==== Proof.IdealRotWindows.lean ====
/-
   The 112 windows of the rotation call, in program `RotKernelIdeal`: the 128-column windows that the body copies, each held by its own elements, and the two buffers
   taken apart into them and put together again.
-/
module

public import proofs.«01_k».proof.Proof.IdealRotRuns
public import Idealize.ShloMosaic.Lib.Pipeline.Frame

@[expose] public section

set_option maxRecDepth 16384

noncomputable section

namespace Cert.RotKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The 112 windows of 128 columns the body moves, taken apart and put together -/

/-- A memref's 128 columns from an offset, held by their own elements. -/
abbrev pwin (c : Dev nD) {sp : Space} (M : Memref sig .tc sp S256x14336 .bf16) (off : Fin 2 → Nat)
    (h : ∀ a, off a + S256x128.size a ≤ S256x14336.size a) (f : BufTy.Contents (Elt F) M.view.ty) : sProp 𝕄 :=
  (M.slice (Rect.unit (s := S256x14336) off S256x128.size h) (fun _ => rfl)).view.loc (c : Thread nD τ)
    ↦[(M.slice (Rect.unit (s := S256x14336) off S256x128.size h) (fun _ => rfl)).view.set]{fullShare} f

/-- All windows at the same contents, in the order the body starts their copies; -/
def wins (c : Dev nD) {sp : Space} (M : Memref sig .tc sp S256x14336 .bf16) (f : BufTy.Contents (Elt F) M.view.ty) : sProp 𝕄 :=
  iprop(pwin c M ![0, 0] inb_S256x14336_S256x128_0_0 f ∗ pwin c M ![0, 512] inb_S256x14336_S256x128_0_512 f ∗ pwin c M ![0, 1024] inb_S256x14336_S256x128_0_1024 f ∗ pwin c M ![0, 1536] inb_S256x14336_S256x128_0_1536 f
    ∗ pwin c M ![0, 2048] inb_S256x14336_S256x128_0_2048 f ∗ pwin c M ![0, 2560] inb_S256x14336_S256x128_0_2560 f ∗ pwin c M ![0, 3072] inb_S256x14336_S256x128_0_3072 f ∗ pwin c M ![0, 3584] inb_S256x14336_S256x128_0_3584 f
    ∗ pwin c M ![0, 4096] inb_S256x14336_S256x128_0_4096 f ∗ pwin c M ![0, 4608] inb_S256x14336_S256x128_0_4608 f ∗ pwin c M ![0, 5120] inb_S256x14336_S256x128_0_5120 f ∗ pwin c M ![0, 5632] inb_S256x14336_S256x128_0_5632 f
    ∗ pwin c M ![0, 6144] inb_S256x14336_S256x128_0_6144 f ∗ pwin c M ![0, 6656] inb_S256x14336_S256x128_0_6656 f ∗ pwin c M ![0, 7168] inb_S256x14336_S256x128_0_7168 f ∗ pwin c M ![0, 7680] inb_S256x14336_S256x128_0_7680 f
    ∗ pwin c M ![0, 8192] inb_S256x14336_S256x128_0_8192 f ∗ pwin c M ![0, 8704] inb_S256x14336_S256x128_0_8704 f ∗ pwin c M ![0, 9216] inb_S256x14336_S256x128_0_9216 f ∗ pwin c M ![0, 9728] inb_S256x14336_S256x128_0_9728 f
    ∗ pwin c M ![0, 10240] inb_S256x14336_S256x128_0_10240 f ∗ pwin c M ![0, 10752] inb_S256x14336_S256x128_0_10752 f ∗ pwin c M ![0, 11264] inb_S256x14336_S256x128_0_11264 f ∗ pwin c M ![0, 11776] inb_S256x14336_S256x128_0_11776 f
    ∗ pwin c M ![0, 12288] inb_S256x14336_S256x128_0_12288 f ∗ pwin c M ![0, 12800] inb_S256x14336_S256x128_0_12800 f ∗ pwin c M ![0, 13312] inb_S256x14336_S256x128_0_13312 f ∗ pwin c M ![0, 13824] inb_S256x14336_S256x128_0_13824 f
    ∗ pwin c M ![0, 128] inb_S256x14336_S256x128_0_128 f ∗ pwin c M ![0, 640] inb_S256x14336_S256x128_0_640 f ∗ pwin c M ![0, 1152] inb_S256x14336_S256x128_0_1152 f ∗ pwin c M ![0, 1664] inb_S256x14336_S256x128_0_1664 f
    ∗ pwin c M ![0, 2176] inb_S256x14336_S256x128_0_2176 f ∗ pwin c M ![0, 2688] inb_S256x14336_S256x128_0_2688 f ∗ pwin c M ![0, 3200] inb_S256x14336_S256x128_0_3200 f ∗ pwin c M ![0, 3712] inb_S256x14336_S256x128_0_3712 f
    ∗ pwin c M ![0, 4224] inb_S256x14336_S256x128_0_4224 f ∗ pwin c M ![0, 4736] inb_S256x14336_S256x128_0_4736 f ∗ pwin c M ![0, 5248] inb_S256x14336_S256x128_0_5248 f ∗ pwin c M ![0, 5760] inb_S256x14336_S256x128_0_5760 f
    ∗ pwin c M ![0, 6272] inb_S256x14336_S256x128_0_6272 f ∗ pwin c M ![0, 6784] inb_S256x14336_S256x128_0_6784 f ∗ pwin c M ![0, 7296] inb_S256x14336_S256x128_0_7296 f ∗ pwin c M ![0, 7808] inb_S256x14336_S256x128_0_7808 f
    ∗ pwin c M ![0, 8320] inb_S256x14336_S256x128_0_8320 f ∗ pwin c M ![0, 8832] inb_S256x14336_S256x128_0_8832 f ∗ pwin c M ![0, 9344] inb_S256x14336_S256x128_0_9344 f ∗ pwin c M ![0, 9856] inb_S256x14336_S256x128_0_9856 f
    ∗ pwin c M ![0, 10368] inb_S256x14336_S256x128_0_10368 f ∗ pwin c M ![0, 10880] inb_S256x14336_S256x128_0_10880 f ∗ pwin c M ![0, 11392] inb_S256x14336_S256x128_0_11392 f ∗ pwin c M ![0, 11904] inb_S256x14336_S256x128_0_11904 f
    ∗ pwin c M ![0, 12416] inb_S256x14336_S256x128_0_12416 f ∗ pwin c M ![0, 12928] inb_S256x14336_S256x128_0_12928 f ∗ pwin c M ![0, 13440] inb_S256x14336_S256x128_0_13440 f ∗ pwin c M ![0, 13952] inb_S256x14336_S256x128_0_13952 f
    ∗ pwin c M ![0, 256] inb_S256x14336_S256x128_0_256 f ∗ pwin c M ![0, 768] inb_S256x14336_S256x128_0_768 f ∗ pwin c M ![0, 1280] inb_S256x14336_S256x128_0_1280 f ∗ pwin c M ![0, 1792] inb_S256x14336_S256x128_0_1792 f
    ∗ pwin c M ![0, 2304] inb_S256x14336_S256x128_0_2304 f ∗ pwin c M ![0, 2816] inb_S256x14336_S256x128_0_2816 f ∗ pwin c M ![0, 3328] inb_S256x14336_S256x128_0_3328 f ∗ pwin c M ![0, 3840] inb_S256x14336_S256x128_0_3840 f
    ∗ pwin c M ![0, 4352] inb_S256x14336_S256x128_0_4352 f ∗ pwin c M ![0, 4864] inb_S256x14336_S256x128_0_4864 f ∗ pwin c M ![0, 5376] inb_S256x14336_S256x128_0_5376 f ∗ pwin c M ![0, 5888] inb_S256x14336_S256x128_0_5888 f
    ∗ pwin c M ![0, 6400] inb_S256x14336_S256x128_0_6400 f ∗ pwin c M ![0, 6912] inb_S256x14336_S256x128_0_6912 f ∗ pwin c M ![0, 7424] inb_S256x14336_S256x128_0_7424 f ∗ pwin c M ![0, 7936] inb_S256x14336_S256x128_0_7936 f
    ∗ pwin c M ![0, 8448] inb_S256x14336_S256x128_0_8448 f ∗ pwin c M ![0, 8960] inb_S256x14336_S256x128_0_8960 f ∗ pwin c M ![0, 9472] inb_S256x14336_S256x128_0_9472 f ∗ pwin c M ![0, 9984] inb_S256x14336_S256x128_0_9984 f
    ∗ pwin c M ![0, 10496] inb_S256x14336_S256x128_0_10496 f ∗ pwin c M ![0, 11008] inb_S256x14336_S256x128_0_11008 f ∗ pwin c M ![0, 11520] inb_S256x14336_S256x128_0_11520 f ∗ pwin c M ![0, 12032] inb_S256x14336_S256x128_0_12032 f
    ∗ pwin c M ![0, 12544] inb_S256x14336_S256x128_0_12544 f ∗ pwin c M ![0, 13056] inb_S256x14336_S256x128_0_13056 f ∗ pwin c M ![0, 13568] inb_S256x14336_S256x128_0_13568 f ∗ pwin c M ![0, 14080] inb_S256x14336_S256x128_0_14080 f
    ∗ pwin c M ![0, 384] inb_S256x14336_S256x128_0_384 f ∗ pwin c M ![0, 896] inb_S256x14336_S256x128_0_896 f ∗ pwin c M ![0, 1408] inb_S256x14336_S256x128_0_1408 f ∗ pwin c M ![0, 1920] inb_S256x14336_S256x128_0_1920 f
    ∗ pwin c M ![0, 2432] inb_S256x14336_S256x128_0_2432 f ∗ pwin c M ![0, 2944] inb_S256x14336_S256x128_0_2944 f ∗ pwin c M ![0, 3456] inb_S256x14336_S256x128_0_3456 f ∗ pwin c M ![0, 3968] inb_S256x14336_S256x128_0_3968 f
    ∗ pwin c M ![0, 4480] inb_S256x14336_S256x128_0_4480 f ∗ pwin c M ![0, 4992] inb_S256x14336_S256x128_0_4992 f ∗ pwin c M ![0, 5504] inb_S256x14336_S256x128_0_5504 f ∗ pwin c M ![0, 6016] inb_S256x14336_S256x128_0_6016 f
    ∗ pwin c M ![0, 6528] inb_S256x14336_S256x128_0_6528 f ∗ pwin c M ![0, 7040] inb_S256x14336_S256x128_0_7040 f ∗ pwin c M ![0, 7552] inb_S256x14336_S256x128_0_7552 f ∗ pwin c M ![0, 8064] inb_S256x14336_S256x128_0_8064 f
    ∗ pwin c M ![0, 8576] inb_S256x14336_S256x128_0_8576 f ∗ pwin c M ![0, 9088] inb_S256x14336_S256x128_0_9088 f ∗ pwin c M ![0, 9600] inb_S256x14336_S256x128_0_9600 f ∗ pwin c M ![0, 10112] inb_S256x14336_S256x128_0_10112 f
    ∗ pwin c M ![0, 10624] inb_S256x14336_S256x128_0_10624 f ∗ pwin c M ![0, 11136] inb_S256x14336_S256x128_0_11136 f ∗ pwin c M ![0, 11648] inb_S256x14336_S256x128_0_11648 f ∗ pwin c M ![0, 12160] inb_S256x14336_S256x128_0_12160 f
    ∗ pwin c M ![0, 12672] inb_S256x14336_S256x128_0_12672 f ∗ pwin c M ![0, 13184] inb_S256x14336_S256x128_0_13184 f ∗ pwin c M ![0, 13696] inb_S256x14336_S256x128_0_13696 f ∗ pwin c M ![0, 14208] inb_S256x14336_S256x128_0_14208 f)

/-- each at contents of its own. -/
def winsE (c : Dev nD) {sp : Space} (M : Memref sig .tc sp S256x14336 .bf16) : sProp 𝕄 :=
  iprop((∃ f, pwin c M ![0, 0] inb_S256x14336_S256x128_0_0 f) ∗ (∃ f, pwin c M ![0, 512] inb_S256x14336_S256x128_0_512 f) ∗ (∃ f, pwin c M ![0, 1024] inb_S256x14336_S256x128_0_1024 f) ∗ (∃ f, pwin c M ![0, 1536] inb_S256x14336_S256x128_0_1536 f)
    ∗ (∃ f, pwin c M ![0, 2048] inb_S256x14336_S256x128_0_2048 f) ∗ (∃ f, pwin c M ![0, 2560] inb_S256x14336_S256x128_0_2560 f) ∗ (∃ f, pwin c M ![0, 3072] inb_S256x14336_S256x128_0_3072 f) ∗ (∃ f, pwin c M ![0, 3584] inb_S256x14336_S256x128_0_3584 f)
    ∗ (∃ f, pwin c M ![0, 4096] inb_S256x14336_S256x128_0_4096 f) ∗ (∃ f, pwin c M ![0, 4608] inb_S256x14336_S256x128_0_4608 f) ∗ (∃ f, pwin c M ![0, 5120] inb_S256x14336_S256x128_0_5120 f) ∗ (∃ f, pwin c M ![0, 5632] inb_S256x14336_S256x128_0_5632 f)
    ∗ (∃ f, pwin c M ![0, 6144] inb_S256x14336_S256x128_0_6144 f) ∗ (∃ f, pwin c M ![0, 6656] inb_S256x14336_S256x128_0_6656 f) ∗ (∃ f, pwin c M ![0, 7168] inb_S256x14336_S256x128_0_7168 f) ∗ (∃ f, pwin c M ![0, 7680] inb_S256x14336_S256x128_0_7680 f)
    ∗ (∃ f, pwin c M ![0, 8192] inb_S256x14336_S256x128_0_8192 f) ∗ (∃ f, pwin c M ![0, 8704] inb_S256x14336_S256x128_0_8704 f) ∗ (∃ f, pwin c M ![0, 9216] inb_S256x14336_S256x128_0_9216 f) ∗ (∃ f, pwin c M ![0, 9728] inb_S256x14336_S256x128_0_9728 f)
    ∗ (∃ f, pwin c M ![0, 10240] inb_S256x14336_S256x128_0_10240 f) ∗ (∃ f, pwin c M ![0, 10752] inb_S256x14336_S256x128_0_10752 f) ∗ (∃ f, pwin c M ![0, 11264] inb_S256x14336_S256x128_0_11264 f) ∗ (∃ f, pwin c M ![0, 11776] inb_S256x14336_S256x128_0_11776 f)
    ∗ (∃ f, pwin c M ![0, 12288] inb_S256x14336_S256x128_0_12288 f) ∗ (∃ f, pwin c M ![0, 12800] inb_S256x14336_S256x128_0_12800 f) ∗ (∃ f, pwin c M ![0, 13312] inb_S256x14336_S256x128_0_13312 f) ∗ (∃ f, pwin c M ![0, 13824] inb_S256x14336_S256x128_0_13824 f)
    ∗ (∃ f, pwin c M ![0, 128] inb_S256x14336_S256x128_0_128 f) ∗ (∃ f, pwin c M ![0, 640] inb_S256x14336_S256x128_0_640 f) ∗ (∃ f, pwin c M ![0, 1152] inb_S256x14336_S256x128_0_1152 f) ∗ (∃ f, pwin c M ![0, 1664] inb_S256x14336_S256x128_0_1664 f)
    ∗ (∃ f, pwin c M ![0, 2176] inb_S256x14336_S256x128_0_2176 f) ∗ (∃ f, pwin c M ![0, 2688] inb_S256x14336_S256x128_0_2688 f) ∗ (∃ f, pwin c M ![0, 3200] inb_S256x14336_S256x128_0_3200 f) ∗ (∃ f, pwin c M ![0, 3712] inb_S256x14336_S256x128_0_3712 f)
    ∗ (∃ f, pwin c M ![0, 4224] inb_S256x14336_S256x128_0_4224 f) ∗ (∃ f, pwin c M ![0, 4736] inb_S256x14336_S256x128_0_4736 f) ∗ (∃ f, pwin c M ![0, 5248] inb_S256x14336_S256x128_0_5248 f) ∗ (∃ f, pwin c M ![0, 5760] inb_S256x14336_S256x128_0_5760 f)
    ∗ (∃ f, pwin c M ![0, 6272] inb_S256x14336_S256x128_0_6272 f) ∗ (∃ f, pwin c M ![0, 6784] inb_S256x14336_S256x128_0_6784 f) ∗ (∃ f, pwin c M ![0, 7296] inb_S256x14336_S256x128_0_7296 f) ∗ (∃ f, pwin c M ![0, 7808] inb_S256x14336_S256x128_0_7808 f)
    ∗ (∃ f, pwin c M ![0, 8320] inb_S256x14336_S256x128_0_8320 f) ∗ (∃ f, pwin c M ![0, 8832] inb_S256x14336_S256x128_0_8832 f) ∗ (∃ f, pwin c M ![0, 9344] inb_S256x14336_S256x128_0_9344 f) ∗ (∃ f, pwin c M ![0, 9856] inb_S256x14336_S256x128_0_9856 f)
    ∗ (∃ f, pwin c M ![0, 10368] inb_S256x14336_S256x128_0_10368 f) ∗ (∃ f, pwin c M ![0, 10880] inb_S256x14336_S256x128_0_10880 f) ∗ (∃ f, pwin c M ![0, 11392] inb_S256x14336_S256x128_0_11392 f) ∗ (∃ f, pwin c M ![0, 11904] inb_S256x14336_S256x128_0_11904 f)
    ∗ (∃ f, pwin c M ![0, 12416] inb_S256x14336_S256x128_0_12416 f) ∗ (∃ f, pwin c M ![0, 12928] inb_S256x14336_S256x128_0_12928 f) ∗ (∃ f, pwin c M ![0, 13440] inb_S256x14336_S256x128_0_13440 f) ∗ (∃ f, pwin c M ![0, 13952] inb_S256x14336_S256x128_0_13952 f)
    ∗ (∃ f, pwin c M ![0, 256] inb_S256x14336_S256x128_0_256 f) ∗ (∃ f, pwin c M ![0, 768] inb_S256x14336_S256x128_0_768 f) ∗ (∃ f, pwin c M ![0, 1280] inb_S256x14336_S256x128_0_1280 f) ∗ (∃ f, pwin c M ![0, 1792] inb_S256x14336_S256x128_0_1792 f)
    ∗ (∃ f, pwin c M ![0, 2304] inb_S256x14336_S256x128_0_2304 f) ∗ (∃ f, pwin c M ![0, 2816] inb_S256x14336_S256x128_0_2816 f) ∗ (∃ f, pwin c M ![0, 3328] inb_S256x14336_S256x128_0_3328 f) ∗ (∃ f, pwin c M ![0, 3840] inb_S256x14336_S256x128_0_3840 f)
    ∗ (∃ f, pwin c M ![0, 4352] inb_S256x14336_S256x128_0_4352 f) ∗ (∃ f, pwin c M ![0, 4864] inb_S256x14336_S256x128_0_4864 f) ∗ (∃ f, pwin c M ![0, 5376] inb_S256x14336_S256x128_0_5376 f) ∗ (∃ f, pwin c M ![0, 5888] inb_S256x14336_S256x128_0_5888 f)
    ∗ (∃ f, pwin c M ![0, 6400] inb_S256x14336_S256x128_0_6400 f) ∗ (∃ f, pwin c M ![0, 6912] inb_S256x14336_S256x128_0_6912 f) ∗ (∃ f, pwin c M ![0, 7424] inb_S256x14336_S256x128_0_7424 f) ∗ (∃ f, pwin c M ![0, 7936] inb_S256x14336_S256x128_0_7936 f)
    ∗ (∃ f, pwin c M ![0, 8448] inb_S256x14336_S256x128_0_8448 f) ∗ (∃ f, pwin c M ![0, 8960] inb_S256x14336_S256x128_0_8960 f) ∗ (∃ f, pwin c M ![0, 9472] inb_S256x14336_S256x128_0_9472 f) ∗ (∃ f, pwin c M ![0, 9984] inb_S256x14336_S256x128_0_9984 f)
    ∗ (∃ f, pwin c M ![0, 10496] inb_S256x14336_S256x128_0_10496 f) ∗ (∃ f, pwin c M ![0, 11008] inb_S256x14336_S256x128_0_11008 f) ∗ (∃ f, pwin c M ![0, 11520] inb_S256x14336_S256x128_0_11520 f) ∗ (∃ f, pwin c M ![0, 12032] inb_S256x14336_S256x128_0_12032 f)
    ∗ (∃ f, pwin c M ![0, 12544] inb_S256x14336_S256x128_0_12544 f) ∗ (∃ f, pwin c M ![0, 13056] inb_S256x14336_S256x128_0_13056 f) ∗ (∃ f, pwin c M ![0, 13568] inb_S256x14336_S256x128_0_13568 f) ∗ (∃ f, pwin c M ![0, 14080] inb_S256x14336_S256x128_0_14080 f)
    ∗ (∃ f, pwin c M ![0, 384] inb_S256x14336_S256x128_0_384 f) ∗ (∃ f, pwin c M ![0, 896] inb_S256x14336_S256x128_0_896 f) ∗ (∃ f, pwin c M ![0, 1408] inb_S256x14336_S256x128_0_1408 f) ∗ (∃ f, pwin c M ![0, 1920] inb_S256x14336_S256x128_0_1920 f)
    ∗ (∃ f, pwin c M ![0, 2432] inb_S256x14336_S256x128_0_2432 f) ∗ (∃ f, pwin c M ![0, 2944] inb_S256x14336_S256x128_0_2944 f) ∗ (∃ f, pwin c M ![0, 3456] inb_S256x14336_S256x128_0_3456 f) ∗ (∃ f, pwin c M ![0, 3968] inb_S256x14336_S256x128_0_3968 f)
    ∗ (∃ f, pwin c M ![0, 4480] inb_S256x14336_S256x128_0_4480 f) ∗ (∃ f, pwin c M ![0, 4992] inb_S256x14336_S256x128_0_4992 f) ∗ (∃ f, pwin c M ![0, 5504] inb_S256x14336_S256x128_0_5504 f) ∗ (∃ f, pwin c M ![0, 6016] inb_S256x14336_S256x128_0_6016 f)
    ∗ (∃ f, pwin c M ![0, 6528] inb_S256x14336_S256x128_0_6528 f) ∗ (∃ f, pwin c M ![0, 7040] inb_S256x14336_S256x128_0_7040 f) ∗ (∃ f, pwin c M ![0, 7552] inb_S256x14336_S256x128_0_7552 f) ∗ (∃ f, pwin c M ![0, 8064] inb_S256x14336_S256x128_0_8064 f)
    ∗ (∃ f, pwin c M ![0, 8576] inb_S256x14336_S256x128_0_8576 f) ∗ (∃ f, pwin c M ![0, 9088] inb_S256x14336_S256x128_0_9088 f) ∗ (∃ f, pwin c M ![0, 9600] inb_S256x14336_S256x128_0_9600 f) ∗ (∃ f, pwin c M ![0, 10112] inb_S256x14336_S256x128_0_10112 f)
    ∗ (∃ f, pwin c M ![0, 10624] inb_S256x14336_S256x128_0_10624 f) ∗ (∃ f, pwin c M ![0, 11136] inb_S256x14336_S256x128_0_11136 f) ∗ (∃ f, pwin c M ![0, 11648] inb_S256x14336_S256x128_0_11648 f) ∗ (∃ f, pwin c M ![0, 12160] inb_S256x14336_S256x128_0_12160 f)
    ∗ (∃ f, pwin c M ![0, 12672] inb_S256x14336_S256x128_0_12672 f) ∗ (∃ f, pwin c M ![0, 13184] inb_S256x14336_S256x128_0_13184 f) ∗ (∃ f, pwin c M ![0, 13696] inb_S256x14336_S256x128_0_13696 f) ∗ (∃ f, pwin c M ![0, 14208] inb_S256x14336_S256x128_0_14208 f))

/-- Window `b`'s offset. -/
abbrev woff (b : Fin 112) : Fin 2 → Nat := ![0, (b.val % 28) * 512 + (b.val / 28) * 128]

theorem woff_inb (b : Fin 112) : ∀ a, woff b a + S256x128.size a ≤ S256x14336.size a := by
  have := b.isLt
  intro a
  fin_cases a
  · show 0 + 256 ≤ 256; omega
  · show (b.val % 28) * 512 + (b.val / 28) * 128 + 128 ≤ 14336; omega

/-- Window `b`. -/
abbrev wrect (b : Fin 112) : Rect S256x14336 := Rect.unit (s := S256x14336) (woff b) S256x128.size (woff_inb b)

theorem mem_wrect (b : Fin 112) (i : S256x14336.Idx) :
    i ∈ (wrect b).set ↔ (b.val % 28) * 512 + (b.val / 28) * 128 ≤ (i 1).val ∧ (i 1).val < (b.val % 28) * 512 + (b.val / 28) * 128 + 128 := by
  rw [Rect.mem_set_unit]
  constructor
  · intro h; exact h 1
  · intro h a
    fin_cases a
    · exact ⟨Nat.zero_le _, (i 0).isLt⟩
    · exact h

theorem wrect_disjoint (b b' : Fin 112) (h : b ≠ b') : Disjoint (wrect b).set (wrect b').set := by
  rw [Finset.disjoint_left]
  intro i hi hi'
  rw [mem_wrect] at hi hi'
  have := b.isLt; have := b'.isLt
  exact h (Fin.ext (by omega))

theorem wrect_cover : Finset.univ.biUnion (fun b => (wrect b).set) = Finset.univ := by
  ext i
  simp only [Finset.mem_biUnion, Finset.mem_univ, true_and, iff_true]
  have h : (i 1).val < 14336 := (i 1).isLt
  refine ⟨⟨(i 1).val / 512 + 28 * ((i 1).val % 512 / 128), by omega⟩, ?_⟩
  rw [mem_wrect]
  simp only
  omega

/-- The windows, listed. -/
abbrev wlist : List (Fin 112) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111]
theorem wlist_univ : Finset.univ = wlist.toFinset := by decide
theorem wlist_nodup : wlist.Nodup := by decide

/-- The elements of `scM0_0`'s window `b`. -/
abbrev scrSet (c : Dev nD) (b : Fin 112) : Finset (Idx (scM0_0.view.loc (c : Thread nD τ))) :=
  (scM0_0.slice (wrect b) (fun _ => rfl)).view.set
theorem scrSet_eq (c : Dev nD) (b : Fin 112) : scrSet c b = (wrect b).set := View.set_slice_whole _ _

theorem scr_disjoint (c : Dev nD) : ∀ b b', b ≠ b' → Disjoint (scrSet c b) (scrSet c b') := by
  intro b b' h
  rw [scrSet_eq, scrSet_eq]; exact wrect_disjoint b b' h

theorem scr_cover (c : Dev nD) : Finset.univ.biUnion (scrSet c) = Finset.univ := by
  rw [funext (scrSet_eq c)]; exact wrect_cover

/-- The buffer whole is its 112 windows, at the same contents. -/
theorem scr_split (c : Dev nD) (f : HbBuf0 (F := F) c scM0_0) : (hbPt0 c scM0_0 f : sProp 𝕄) = wins c scM0_0 f :=
  (Ring.pointsTo_blocks (scrSet c) (scr_disjoint c) (scr_cover c) f).trans
    ((bigSep_univ_eq_bigSepL wlist wlist_univ wlist_nodup _).trans rfl)

/-- Its windows at contents of their own are the buffer whole at some contents. -/
theorem scr_join (c : Dev nD) (f₀ : HbBuf0 (F := F) c scM0_0) : winsE c scM0_0 ⊢ (iprop(∃ f, hbPt0 c scM0_0 f) : sProp 𝕄) := by
  have h := Ring.pointsTo_blocks_join_exists (Ix := Unit) (Val := Elt F) (Name := ℕ) (U := Pipeline.UD sig nD τ) (Lvl := ℕ)
    (scrSet c) (scr_disjoint c) (scr_cover c) (q := fullShare) f₀
  rw [bigSep_univ_eq_bigSepL wlist wlist_univ wlist_nodup] at h
  exact h

/-- The elements of `hbM0_0`'s window `b`. -/
abbrev hbmSet (c : Dev nD) (b : Fin 112) : Finset (Idx (hbM0_0.view.loc (c : Thread nD τ))) :=
  (hbM0_0.slice (wrect b) (fun _ => rfl)).view.set
theorem hbmSet_eq (c : Dev nD) (b : Fin 112) : hbmSet c b = (wrect b).set := View.set_slice_whole _ _

theorem hbm_disjoint (c : Dev nD) : ∀ b b', b ≠ b' → Disjoint (hbmSet c b) (hbmSet c b') := by
  intro b b' h
  rw [hbmSet_eq, hbmSet_eq]; exact wrect_disjoint b b' h

theorem hbm_cover (c : Dev nD) : Finset.univ.biUnion (hbmSet c) = Finset.univ := by
  rw [funext (hbmSet_eq c)]; exact wrect_cover

/-- The buffer whole is its 112 windows, at the same contents. -/
theorem hbm_split (c : Dev nD) (f : HbBuf0 (F := F) c hbM0_0) : (hbPt0 c hbM0_0 f : sProp 𝕄) = wins c hbM0_0 f :=
  (Ring.pointsTo_blocks (hbmSet c) (hbm_disjoint c) (hbm_cover c) f).trans
    ((bigSep_univ_eq_bigSepL wlist wlist_univ wlist_nodup _).trans rfl)

/-- Its windows at contents of their own are the buffer whole at some contents. -/
theorem hbm_join (c : Dev nD) (f₀ : HbBuf0 (F := F) c hbM0_0) : winsE c hbM0_0 ⊢ (iprop(∃ f, hbPt0 c hbM0_0 f) : sProp 𝕄) := by
  have h := Ring.pointsTo_blocks_join_exists (Ix := Unit) (Val := Elt F) (Name := ℕ) (U := Pipeline.UD sig nD τ) (Lvl := ℕ)
    (hbmSet c) (hbm_disjoint c) (hbm_cover c) (q := fullShare) f₀
  rw [bigSep_univ_eq_bigSepL wlist wlist_univ wlist_nodup] at h
  exact h

end Cert.RotKernelIdeal.Gen

end
-- ==== Proof.IdealRotLoops.lean ====
/-
   The two counted loops of the rotation call, in program `RotKernelIdeal`: for each loop what one trip does (`trip_…`, found by running it), the state before a trip as a
   recursion on the trip's number (`st_…`, `pb_…`), and the loop's invariant (`loopInv_…`).
-/
module

public import proofs.«01_k».proof.Proof.Gen.RotKernelIdeal.Skeleton
public import Idealize.ShloMosaic.Lib.Exec
public import Idealize.ShloMosaic.Lib.Tactic
public import Idealize.ShloMosaic.Lib.Pipeline.Kit
public import Idealize.ShloMosaic.Lib.Pipeline.Frame

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.RotKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: that of a body with transfers of its own. -/
local notation "𝕄G" => MT nD τ sig Unit (Elt F) ℕ (Pipeline.UD sig nD τ) ℕ
/-! ## `cc0_rot_quant` -/

/-- The class of invariants of `cc0_rot_quant`'s counted loop `k0_t2_loop` (`scf.for %arg11 =
   %c0_i32_4136 to %5125 step %c1_i32_4137 : i32 {`), trip `k0_t2`, carrying `Unit`, region
   `Gen.k0_t2_body`. Classifier: AFFINE — every store at a `Rect.unit` whose offsets are a stated
   closed form of the trips, nothing carried, no transfer or conditional inside: the invariant is
   the pieces of the trips before `k`. One trip calls the parts
   `k0_part56`, `k0_part45`, `k0_part46`, `k0_part47`, `k0_part48`, `k0_part49`, `k0_part50`,
   `k0_part51`, `k0_part52`, `k0_part53`, `k0_part54`, `k0_part55`. Per trip it STORES through arg3
   at (k0_off81 k0_t2 0#32); arg2 at (k0_off82 k0_t2 0#32); arg3 at (k0_off81 k0_t2 256#32); arg2 at
   (k0_off82 k0_t2 256#32). It LOADS through arg8 at (k0_off65 k0_t2); arg8 at (k0_off66 k0_t2);
   arg8 at (k0_off67 k0_t2); arg8 at (k0_off68 k0_t2); arg8 at (k0_off69 k0_t2); arg8 at (k0_off70
   k0_t2); arg8 at (k0_off71 k0_t2); arg8 at (k0_off72 k0_t2); arg8 at (k0_off73 k0_t2); arg8 at
   (k0_off74 k0_t2); arg8 at (k0_off75 k0_t2); arg8 at (k0_off76 k0_t2); and more. Below:
   `Gen.loopInv_k0_t2` (`@[sl_loop]`), at the frame kit's algebra. -/
abbrev LoopInvTy_k0_t2 (Ix Name U Lvl : Type) [DecidableEq Ix] [DecidableEq Name] [RA.URA U] [Preorder Lvl]
    (𝒱 : Variants) (c : Dev nD) (bd : Option 𝒱.V) (E : Set Name) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 arg10 v5105 v5110)

/-! ### `k0_t2_loop`: its invariant -/

/-- One trip's resources: what the region reads (arg8) at its contents, what it writes (arg2, arg3)
   at any. -/
abbrev Trip_k0_t2 (c : Dev nD) (arg8 : Memref sig .tc .vmem S32x448x256 .f32) (arg2 : Memref sig .tc .vmem S256x14336 .i8) (arg3 : Memref sig .tc .vmem S14336x256 .fp8e4m3) (X_arg8 : BufTy.Contents (Elt F) arg8.view.ty) (f_arg2 : BufTy.Contents (Elt F) arg2.view.ty) (f_arg3 : BufTy.Contents (Elt F) arg3.view.ty) : sProp 𝕄G :=
  iprop((arg8.view.loc (c : Thread nD τ) ↦[arg8.view.set]{fullShare} X_arg8) ∗ (arg2.view.loc (c : Thread nD τ) ↦[arg2.view.set]{fullShare} f_arg2) ∗ (arg3.view.loc (c : Thread nD τ) ↦[arg3.view.set]{fullShare} f_arg3))

/-- ONE TRIP of `k0_t2_loop` at a symbolic `k`, run by `sl_exec` (its rectangles' offsets closed
   forms of `k`, their geometry linear arithmetic): the pieces it writes into arg2, arg3 are the
   run's own finds — the witnesses `sl_close` assigns handing the buffers to the continuation.
   `@[irreducible]`: cited, never unfolded. -/
@[irreducible] def trip_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : Fin k0_t2_loop.trips) :
    Σ' (L_arg2 : List (View.Piece (Elt F) S256x14336 .i8)) , { L_arg3 : List (View.Piece (Elt F) S14336x256 .fp8e4m3) // ∀ (E : Set ℕ) (f_arg2 : BufTy.Contents (Elt F) arg2.view.ty) (f_arg3 : BufTy.Contents (Elt F) arg3.view.ty),
      Trip_k0_t2 (F := F) c arg8 arg2 arg3 X_arg8 f_arg2 f_arg3
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 v5105 v5110 k PUnit.unit)
          (fun _ => Trip_k0_t2 (F := F) c arg8 arg2 arg3 X_arg8 (arg2.view.writes (Elt F) f_arg2 L_arg2) (arg3.view.writes (Elt F) f_arg3 L_arg3)) } := by
  have hk : k.val < 28 := Nat.lt_of_lt_of_le k.isLt k0_t2_abs.2.1
  refine ⟨?_, ?_, fun E f_arg2 f_arg3 => ?run⟩
  case run =>
    unfold k0_t2_body
    iintro ⟨HR_arg8, HW_arg2, HW_arg3⟩
    sl_exec
    sl_step
    sl_close

/-- The trip's piece lists (plain projections of `trip_…`, for the recursion below to cite without
   its proof). -/
abbrev tripL_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : Fin k0_t2_loop.trips) : List (View.Piece (Elt F) S256x14336 .i8) × List (View.Piece (Elt F) S14336x256 .fp8e4m3) :=
  ((trip_k0_t2 (F := F) 𝒱 c bd arg0 harg0 arg1 harg1 arg2 harg2 arg3 harg3 arg4 harg4 arg5 harg5 arg6 harg6 arg7 harg7 arg8 harg8 arg9 harg9 arg10 v5105 v5110 X_arg8 k).1, (trip_k0_t2 (F := F) 𝒱 c bd arg0 harg0 arg1 harg1 arg2 harg2 arg3 harg3 arg4 harg4 arg5 harg5 arg6 harg6 arg7 harg7 arg8 harg8 arg9 harg9 arg10 v5105 v5110 X_arg8 k).2.1)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : ℕ) (prev : List (View.Piece (Elt F) S256x14336 .i8) × List (View.Piece (Elt F) S14336x256 .fp8e4m3)) : List (View.Piece (Elt F) S256x14336 .i8) × List (View.Piece (Elt F) S14336x256 .fp8e4m3) :=
  if h : k < k0_t2_loop.trips then
    ((tripL_k0_t2 (F := F) 𝒱 c bd arg0 harg0 arg1 harg1 arg2 harg2 arg3 harg3 arg4 harg4 arg5 harg5 arg6 harg6 arg7 harg7 arg8 harg8 arg9 harg9 arg10 v5105 v5110 X_arg8 ⟨k, h⟩).1 ++ prev.1, (tripL_k0_t2 (F := F) 𝒱 c bd arg0 harg0 arg1 harg1 arg2 harg2 arg3 harg3 arg4 harg4 arg5 harg5 arg6 harg6 arg7 harg7 arg8 harg8 arg9 harg9 arg10 v5105 v5110 X_arg8 ⟨k, h⟩).2 ++ prev.2)
  else prev

/-- The pieces of the trips before `k` (last first), per written memref. -/
def pb_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) : ℕ → List (View.Piece (Elt F) S256x14336 .i8) × List (View.Piece (Elt F) S14336x256 .fp8e4m3)
  | 0 => ([], [])
  | k + 1 => pb_k0_t2Step 𝒱 c bd arg0 harg0 arg1 harg1 arg2 harg2 arg3 harg3 arg4 harg4 arg5 harg5 arg6 harg6 arg7 harg7 arg8 harg8 arg9 harg9 arg10 v5105 v5110 X_arg8 k (pb_k0_t2 𝒱 c bd arg0 harg0 arg1 harg1 arg2 harg2 arg3 harg3 arg4 harg4 arg5 harg5 arg6 harg6 arg7 harg7 arg8 harg8 arg9 harg9 arg10 v5105 v5110 X_arg8 k)

theorem pb_k0_t2_succ (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (k : Fin k0_t2_loop.trips) :
    pb_k0_t2 (F := F) 𝒱 c bd arg0 harg0 arg1 harg1 arg2 harg2 arg3 harg3 arg4 harg4 arg5 harg5 arg6 harg6 arg7 harg7 arg8 harg8 arg9 harg9 arg10 v5105 v5110 X_arg8 (k.val + 1)
      = ((tripL_k0_t2 (F := F) 𝒱 c bd arg0 harg0 arg1 harg1 arg2 harg2 arg3 harg3 arg4 harg4 arg5 harg5 arg6 harg6 arg7 harg7 arg8 harg8 arg9 harg9 arg10 v5105 v5110 X_arg8 k).1 ++ (pb_k0_t2 (F := F) 𝒱 c bd arg0 harg0 arg1 harg1 arg2 harg2 arg3 harg3 arg4 harg4 arg5 harg5 arg6 harg6 arg7 harg7 arg8 harg8 arg9 harg9 arg10 v5105 v5110 X_arg8 k.val).1, (tripL_k0_t2 (F := F) 𝒱 c bd arg0 harg0 arg1 harg1 arg2 harg2 arg3 harg3 arg4 harg4 arg5 harg5 arg6 harg6 arg7 harg7 arg8 harg8 arg9 harg9 arg10 v5105 v5110 X_arg8 k).2 ++ (pb_k0_t2 (F := F) 𝒱 c bd arg0 harg0 arg1 harg1 arg2 harg2 arg3 harg3 arg4 harg4 arg5 harg5 arg6 harg6 arg7 harg7 arg8 harg8 arg9 harg9 arg10 v5105 v5110 X_arg8 k.val).2) := by
  rw [pb_k0_t2.eq_2]; unfold pb_k0_t2Step; exact dif_pos k.isLt

/-- THE INVARIANT before trip `k`: arg8 read at `X_·`; arg2, arg3 holding the pieces of the trips
   before `k` written over the contents at loop entry `G_·` (stated `∃ f, … ∗ ⌜f = …⌝`, so that a
   hypothesis of any contents matches and the equation is what is proved). -/
abbrev inv_k0_t2 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (G_arg2 : BufTy.Contents (Elt F) arg2.view.ty) (G_arg3 : BufTy.Contents (Elt F) arg3.view.ty) (k : ℕ) (_u : PUnit) : sProp 𝕄G :=
  iprop((arg8.view.loc (c : Thread nD τ) ↦[arg8.view.set]{fullShare} X_arg8) ∗ (∃ f, (arg2.view.loc (c : Thread nD τ) ↦[arg2.view.set]{fullShare} f) ∗ ⌜f = arg2.view.writes (Elt F) G_arg2 (pb_k0_t2 (F := F) 𝒱 c bd arg0 harg0 arg1 harg1 arg2 harg2 arg3 harg3 arg4 harg4 arg5 harg5 arg6 harg6 arg7 harg7 arg8 harg8 arg9 harg9 arg10 v5105 v5110 X_arg8 k).1⌝) ∗ (∃ f, (arg3.view.loc (c : Thread nD τ) ↦[arg3.view.set]{fullShare} f) ∗ ⌜f = arg3.view.writes (Elt F) G_arg3 (pb_k0_t2 (F := F) 𝒱 c bd arg0 harg0 arg1 harg1 arg2 harg2 arg3 harg3 arg4 harg4 arg5 harg5 arg6 harg6 arg7 harg7 arg8 harg8 arg9 harg9 arg10 v5105 v5110 X_arg8 k).2⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v5105 : FVec F S1x256 .f32) (v5110 : FVec F S1x256 .f32) (X_arg8 : BufTy.Contents (Elt F) arg8.view.ty) (G_arg2 : BufTy.Contents (Elt F) arg2.view.ty) (G_arg3 : BufTy.Contents (Elt F) arg3.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 v5105 v5110 where
  inv := inv_k0_t2 (F := F) 𝒱 c bd arg0 harg0 arg1 harg1 arg2 harg2 arg3 harg3 arg4 harg4 arg5 harg5 arg6 harg6 arg7 harg7 arg8 harg8 arg9 harg9 arg10 v5105 v5110 X_arg8 G_arg2 G_arg3
  step k acc := by
    iintro ⟨HR_arg8, ⟨%f_arg2, HW_arg2, %h_arg2⟩, ⟨%f_arg3, HW_arg3, %h_arg3⟩⟩
    iapply (wp_wand_r Idealize.ShloMosaic.frame (wpE (defs₀ (F := F)) 𝒱 (c : Thread nD τ) bd) E)
    isplitl [HR_arg8 HW_arg2 HW_arg3]
    · iapply ((trip_k0_t2 (F := F) 𝒱 c bd arg0 harg0 arg1 harg1 arg2 harg2 arg3 harg3 arg4 harg4 arg5 harg5 arg6 harg6 arg7 harg7 arg8 harg8 arg9 harg9 arg10 v5105 v5110 X_arg8 k).2.2 E f_arg2 f_arg3)
      isplitl [HR_arg8]; · iexact HR_arg8
      isplitl [HW_arg2]; · iexact HW_arg2
      iexact HW_arg3
    · iintro %_ ⟨HR_arg8, HW_arg2, HW_arg3⟩
      isplitl [HR_arg8]; · iexact HR_arg8
      rw [pb_k0_t2_succ]
      isplitl [HW_arg2]
      · iexists _; isplitl [HW_arg2]; · iexact HW_arg2
        ipureintro; rw [h_arg2, ← View.writes_append]
      iexists _; isplitl [HW_arg3]; · iexact HW_arg3
      ipureintro; rw [h_arg3, ← View.writes_append]

/-- The class of invariants of `k0_part234`'s counted loop `k0_t1_loop` (`%5098:4 = scf.for %arg11 =
   %c0_i32_4120 to %5097 step %c1_i32_4121 iter_args(%arg12 = %5092, %arg13 = %5094, %arg14 = %5092,
   %arg15 = %5096) -> (vector<8x128xf32>, vector<8x128xf32>, vector<8x128xf32>, vector<8x128xf32>) :
   i32 {`), trip `k0_t1`, carrying `FVec F S8x128 .f32 × FVec F S8x128 .f32 × FVec F S8x128 .f32 ×
   FVec F S8x128 .f32`, region `Gen.k0_t1_body`. Classifier: AFFINE — every store at a `Rect.unit`
   whose offsets are a stated closed form of the trips, no rectangle computed from the carried
   value, no transfer or conditional inside: the invariant is the pieces of the trips before `k`. The region loads back what it stores into `arg8` (an
   accumulation): each trip's pieces are stated as functions of the contents it finds there. The
   same recursion (`Gen.st_k0_t1`) gives the carried value before trip `k`, each trip's yield a
   function the run finds. One trip calls the parts `k0_part25`, `k0_part26`, `k0_part27`,
   `k0_part28`, `k0_part29`, `k0_part30`, `k0_part31`, `k0_part32`, `k0_part33`, `k0_part34`,
   `k0_part35`, `k0_part36`, `k0_part37`, `k0_part38`, `k0_part39`, `k0_part40`, `k0_part41`,
   `k0_part42`, `k0_part43`, `k0_part44`. Per trip it STORES through arg8 at (k0_off1 k0_t1); arg8
   at (k0_off2 k0_t1); arg8 at (k0_off3 k0_t1); arg8 at (k0_off4 k0_t1); arg8 at (k0_off5 k0_t1);
   arg8 at (k0_off6 k0_t1); arg8 at (k0_off7 k0_t1); arg8 at (k0_off8 k0_t1); arg8 at (k0_off9
   k0_t1); arg8 at (k0_off10 k0_t1); arg8 at (k0_off11 k0_t1); arg8 at (k0_off12 k0_t1); and 52
   more. It LOADS through arg8 at (k0_off1 k0_t1); arg8 at (k0_off2 k0_t1); arg8 at (k0_off3 k0_t1);
   arg8 at (k0_off4 k0_t1); arg8 at (k0_off5 k0_t1); arg8 at (k0_off6 k0_t1); arg8 at (k0_off7
   k0_t1); arg8 at (k0_off8 k0_t1); arg8 at (k0_off9 k0_t1); arg8 at (k0_off10 k0_t1); arg8 at
   (k0_off11 k0_t1); arg8 at (k0_off12 k0_t1); and more. Below: `Gen.loopInv_k0_t1`
   (`@[sl_loop]`), at the frame kit's algebra. -/
abbrev LoopInvTy_k0_t1 (Ix Name U Lvl : Type) [DecidableEq Ix] [DecidableEq Name] [RA.URA U] [Preorder Lvl]
    (𝒱 : Variants) (c : Dev nD) (bd : Option 𝒱.V) (E : Set Name) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (init : FVec F S8x128 .f32 × FVec F S8x128 .f32 × FVec F S8x128 .f32 × FVec F S8x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 arg10 v571 v5075 v5077 cst_4104)

/-! ### `k0_t1_loop`: its invariant -/

/-- One trip's resources: what the region reads (nothing) at its contents, what it writes (arg8) at
   any. -/
abbrev Trip_k0_t1 (c : Dev nD) (arg8 : Memref sig .tc .vmem S32x448x256 .f32) (f_arg8 : BufTy.Contents (Elt F) arg8.view.ty) : sProp 𝕄G :=
  iprop((arg8.view.loc (c : Thread nD τ) ↦[arg8.view.set]{fullShare} f_arg8))

/-- ONE TRIP of `k0_t1_loop` at a symbolic `k` and carried value `acc`, run by `sl_exec` (its
   rectangles' offsets closed forms of `k`, their geometry linear arithmetic): what it yields and
   the pieces it writes into arg8 are the run's own finds — the witnesses `sl_close` assigns handing
   the buffers to the continuation, as functions of the carried value and of the contents the trip
   finds in the memrefs it writes (the region loads some of them back). `@[irreducible]`: cited,
   never unfolded. -/
@[irreducible] def trip_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (k : Fin k0_t1_loop.trips) :
    Σ' (R_k0_t1 : ((FVec F S8x128 .f32 × FVec F S8x128 .f32 × FVec F S8x128 .f32 × FVec F S8x128 .f32) → BufTy.Contents (Elt F) arg8.view.ty → FVec F S8x128 .f32 × FVec F S8x128 .f32 × FVec F S8x128 .f32 × FVec F S8x128 .f32)) , { L_arg8 : ((FVec F S8x128 .f32 × FVec F S8x128 .f32 × FVec F S8x128 .f32 × FVec F S8x128 .f32) → BufTy.Contents (Elt F) arg8.view.ty → List (View.Piece (Elt F) S32x448x256 .f32)) // ∀ (E : Set ℕ) (acc : FVec F S8x128 .f32 × FVec F S8x128 .f32 × FVec F S8x128 .f32 × FVec F S8x128 .f32) (f_arg8 : BufTy.Contents (Elt F) arg8.view.ty),
      Trip_k0_t1 (F := F) c arg8 f_arg8
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 v571 v5075 v5077 cst_4104 k acc)
          (fun yld => iprop(⌜yld = R_k0_t1 acc f_arg8⌝ ∗ Trip_k0_t1 (F := F) c arg8 (arg8.view.writes (Elt F) f_arg8 (L_arg8 acc f_arg8)))) } := by
  have hk : k.val < 56 := Nat.lt_of_lt_of_le k.isLt k0_t1_abs.2.1
  refine ⟨?_, ?_, fun E acc f_arg8 => ?run⟩
  case run =>
    unfold k0_t1_body
    iintro HW_arg8
    sl_exec
    sl_step
    sl_close

/-- The trip's result (a plain projection of `trip_…`, for the recursion below to cite without its
   proof). -/
abbrev tripR_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (k : Fin k0_t1_loop.trips) (acc : FVec F S8x128 .f32 × FVec F S8x128 .f32 × FVec F S8x128 .f32 × FVec F S8x128 .f32) (f_arg8 : BufTy.Contents (Elt F) arg8.view.ty) : FVec F S8x128 .f32 × FVec F S8x128 .f32 × FVec F S8x128 .f32 × FVec F S8x128 .f32 :=
  (trip_k0_t1 (F := F) 𝒱 c bd arg0 harg0 arg1 harg1 arg2 harg2 arg3 harg3 arg4 harg4 arg5 harg5 arg6 harg6 arg7 harg7 arg8 harg8 arg9 harg9 arg10 v571 v5075 v5077 cst_4104 k).1 acc f_arg8

/-- The trip's piece lists (plain projections of `trip_…`, for the recursion below to cite without
   its proof), at the carried value and the contents the trip finds in the written memrefs. -/
abbrev tripL_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (k : Fin k0_t1_loop.trips) (acc : FVec F S8x128 .f32 × FVec F S8x128 .f32 × FVec F S8x128 .f32 × FVec F S8x128 .f32) (f_arg8 : BufTy.Contents (Elt F) arg8.view.ty) : List (View.Piece (Elt F) S32x448x256 .f32) :=
  (trip_k0_t1 (F := F) 𝒱 c bd arg0 harg0 arg1 harg1 arg2 harg2 arg3 harg3 arg4 harg4 arg5 harg5 arg6 harg6 arg7 harg7 arg8 harg8 arg9 harg9 arg10 v571 v5075 v5077 cst_4104 k).2.1 acc f_arg8

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) (k : ℕ) (prev : (FVec F S8x128 .f32 × FVec F S8x128 .f32 × FVec F S8x128 .f32 × FVec F S8x128 .f32) × List (View.Piece (Elt F) S32x448x256 .f32)) : (FVec F S8x128 .f32 × FVec F S8x128 .f32 × FVec F S8x128 .f32 × FVec F S8x128 .f32) × List (View.Piece (Elt F) S32x448x256 .f32) :=
  if h : k < k0_t1_loop.trips then
    (tripR_k0_t1 (F := F) 𝒱 c bd arg0 harg0 arg1 harg1 arg2 harg2 arg3 harg3 arg4 harg4 arg5 harg5 arg6 harg6 arg7 harg7 arg8 harg8 arg9 harg9 arg10 v571 v5075 v5077 cst_4104 ⟨k, h⟩ prev.1 (arg8.view.writes (Elt F) G_arg8 prev.2), (tripL_k0_t1 (F := F) 𝒱 c bd arg0 harg0 arg1 harg1 arg2 harg2 arg3 harg3 arg4 harg4 arg5 harg5 arg6 harg6 arg7 harg7 arg8 harg8 arg9 harg9 arg10 v571 v5075 v5077 cst_4104 ⟨k, h⟩ prev.1 (arg8.view.writes (Elt F) G_arg8 prev.2)) ++ prev.2)
  else prev

/-- The STATE before trip `k`: the carried value and, per written memref, the pieces of the trips
   before (last first), starting from the contents `G_·` at loop entry; each trip's pieces taken at
   the contents the earlier trips left. -/
def st_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) : ℕ → (FVec F S8x128 .f32 × FVec F S8x128 .f32 × FVec F S8x128 .f32 × FVec F S8x128 .f32) × List (View.Piece (Elt F) S32x448x256 .f32)
  | 0 => (init, [])
  | k + 1 => st_k0_t1Step 𝒱 c bd arg0 harg0 arg1 harg1 arg2 harg2 arg3 harg3 arg4 harg4 arg5 harg5 arg6 harg6 arg7 harg7 arg8 harg8 arg9 harg9 arg10 v571 v5075 v5077 cst_4104 G_arg8 init k (st_k0_t1 𝒱 c bd arg0 harg0 arg1 harg1 arg2 harg2 arg3 harg3 arg4 harg4 arg5 harg5 arg6 harg6 arg7 harg7 arg8 harg8 arg9 harg9 arg10 v571 v5075 v5077 cst_4104 G_arg8 init k)

theorem st_k0_t1_succ (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) (k : Fin k0_t1_loop.trips) :
    st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init (k.val + 1)
      = ((tripR_k0_t1 (F := F) 𝒱 c bd arg0 harg0 arg1 harg1 arg2 harg2 arg3 harg3 arg4 harg4 arg5 harg5 arg6 harg6 arg7 harg7 arg8 harg8 arg9 harg9 arg10 v571 v5075 v5077 cst_4104 k (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).1 (arg8.view.writes (Elt F) G_arg8 (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).2)), (tripL_k0_t1 (F := F) 𝒱 c bd arg0 harg0 arg1 harg1 arg2 harg2 arg3 harg3 arg4 harg4 arg5 harg5 arg6 harg6 arg7 harg7 arg8 harg8 arg9 harg9 arg10 v571 v5075 v5077 cst_4104 k (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).1 (arg8.view.writes (Elt F) G_arg8 (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).2)) ++ (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k.val).2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) :
    (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init 0).1 = init := rfl

/-- THE INVARIANT before trip `k`: nothing read at `X_·`; arg8 holding the pieces of the trips
   before `k` written over the contents at loop entry `G_·` (stated `∃ f, … ∗ ⌜f = …⌝`, so that a
   hypothesis of any contents matches and the equation is what is proved); and `acc` equal to the
   state's carried value (an equation the run substitutes after the loop). -/
abbrev inv_k0_t1 (𝒱 : Variants) (c : Dev nD) (bd : Option 𝒱.V) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) (k : ℕ) (acc : FVec F S8x128 .f32 × FVec F S8x128 .f32 × FVec F S8x128 .f32 × FVec F S8x128 .f32) : sProp 𝕄G :=
  iprop((∃ f, (arg8.view.loc (c : Thread nD τ) ↦[arg8.view.set]{fullShare} f) ∗ ⌜f = arg8.view.writes (Elt F) G_arg8 (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k).2⌝) ∗ ⌜acc = (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k).1⌝)

set_option warn.classDefReducibility false in
/-- THE LOOP BY ITS INVARIANT (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (arg0 : Memref sig .tc .hbm S256x14336 .bf16) (harg0 : arg0.IsWhole) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S256x14336 .bf16) (harg6 : arg6.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole) (arg10 : DmaSems sig S4) (v571 : BitVec 1) (v5075 : FVec F S448x448 .bf16) (v5077 : FVec F S448x256 .bf16) (cst_4104 : FVec F S448x256 .f32) (G_arg8 : BufTy.Contents (Elt F) arg8.view.ty) (init : FVec F S8x128 .f32 × FVec F S8x128 .f32 × FVec F S8x128 .f32 × FVec F S8x128 .f32) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 v571 v5075 v5077 cst_4104 init where
  inv := inv_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init
  step k acc := by
    iintro ⟨⟨%f_arg8, HW_arg8, %h_arg8⟩, %h_acc⟩
    subst h_acc
    iapply (wp_wand_r Idealize.ShloMosaic.frame (wpE (defs₀ (F := F)) 𝒱 (c : Thread nD τ) bd) E)
    isplitl [HW_arg8]
    · iapply ((trip_k0_t1 (F := F) 𝒱 c bd arg0 harg0 arg1 harg1 arg2 harg2 arg3 harg3 arg4 harg4 arg5 harg5 arg6 harg6 arg7 harg7 arg8 harg8 arg9 harg9 arg10 v571 v5075 v5077 cst_4104 k).2.2 E (st_k0_t1 (F := F) 𝒱 c bd arg0 harg0 arg1 harg1 arg2 harg2 arg3 harg3 arg4 harg4 arg5 harg5 arg6 harg6 arg7 harg7 arg8 harg8 arg9 harg9 arg10 v571 v5075 v5077 cst_4104 G_arg8 init k).1 f_arg8)
      iexact HW_arg8
    · iintro %yld ⟨%h_res, HW_arg8⟩
      unfold inv_k0_t1
      simp only [st_k0_t1_succ]
      isplitl [HW_arg8]
      · iexists _; isplitl [HW_arg8]; · iexact HW_arg8
        ipureintro; rw [h_arg8, ← View.writes_append]
      ipureintro; rw [h_res, h_arg8]

end Cert.RotKernelIdeal.Gen

end
-- ==== Proof.IdealRotRun.lean ====
/-
   The run of the rotation call's body, in program `RotKernelIdeal`: 112 copies started on four semaphores, 28 to each, before the first is waited for; the four guarded
   blocks; the two loops. The windows stand apart, so that each copy takes its own and every wait gives 28 of them back.
-/
module

public import proofs.«01_k».proof.Proof.IdealRotWindows
public import proofs.«01_k».proof.Proof.IdealRotLoops
public import Idealize.ShloMosaic.Lib.Batch

@[expose] public section

set_option maxRecDepth 16384

noncomputable section

namespace Cert.RotKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in
set_option sl_exec.maxSteps 0 in
set_option sl_exec.stepHeartbeats 1000000 in
set_option sl_exec.dmaWindow true in
set_option sl_exec.dmaWindowSet true in
/-- The body's triple: on whole staging memrefs — the inputs' at their contents,
    the FORGOTTEN outputs' (1, 2, 3, 4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg1 : Memref sig .tc .vmem S28x28 .f32) (harg1 : arg1.IsWhole) (arg2 : Memref sig .tc .vmem S256x14336 .i8) (harg2 : arg2.IsWhole) (arg3 : Memref sig .tc .vmem S14336x256 .fp8e4m3) (harg3 : arg3.IsWhole) (arg4 : Memref sig .tc .vmem S1x256 .f32) (harg4 : arg4.IsWhole) (arg5 : Memref sig .tc .vmem S1x256 .f32) (harg5 : arg5.IsWhole) (arg7 : Memref sig .tc .vmem S8x448x256 .bf16) (harg7 : arg7.IsWhole) (arg8 : Memref sig .tc .vmem S32x448x256 .f32) (harg8 : arg8.IsWhole) (arg9 : Memref sig .tc .vmem S3x448x448 .bf16) (harg9 : arg9.IsWhole)
    (fv : HbBuf0 (F := F) c scM0_0) (x0 : Vec F S28x28 .f32) (fh0 : HbBuf0 (F := F) c hbM0_0) :
      ∀ (W : Waits sig Unit) (K : PUnit → sProp 𝕄),
        iprop(wins c scM0_0 fv ∗ wins c hbM0_0 fh0 ∗ owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ owes (c : Thread nD τ) 0 W
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ winsE c scM0_0 ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ wins c hbM0_0 fh0 ∗ (∃ W', owes (c : Thread nD τ) 0 W')) -∗ K ⟨⟩))
          ⊢ wp frame (wpE (defs₀ (F := F)) Variants.none c none) Set.univ (cc0_rot_quant (Memref.whole main_v0) (Memref.isWhole_whole _) arg1 harg1 arg2 harg2 arg3 harg3 arg4 harg4 arg5 harg5 scM0_0 (Memref.isWhole_whole _) arg7 harg7 arg8 harg8 arg9 harg9 cc0_scratch4) K := by
    intro W K
    have P0 : Transfers.BatchOf (c : Thread nD τ) (SemLoc.dma (sig := sig) 5) 28 := trivial
    have P1 : Transfers.BatchOf (c : Thread nD τ) (SemLoc.dma (sig := sig) 6) 28 := trivial
    have P2 : Transfers.BatchOf (c : Thread nD τ) (SemLoc.dma (sig := sig) 7) 28 := trivial
    have P3 : Transfers.BatchOf (c : Thread nD τ) (SemLoc.dma (sig := sig) 8) 28 := trivial
    simp only [cc0_rot_quant_eq_skeleton]; unfold cc0_rot_quant_skel
    unfold owns wins
    iintro ⟨⟨HV0, HV512, HV1024, HV1536, HV2048, HV2560, HV3072, HV3584, HV4096, HV4608, HV5120, HV5632, HV6144, HV6656, HV7168, HV7680, HV8192, HV8704, HV9216, HV9728, HV10240, HV10752, HV11264, HV11776, HV12288, HV12800, HV13312, HV13824, HV128, HV640, HV1152, HV1664, HV2176, HV2688, HV3200, HV3712, HV4224, HV4736, HV5248, HV5760, HV6272, HV6784, HV7296, HV7808, HV8320, HV8832, HV9344, HV9856, HV10368, HV10880, HV11392, HV11904, HV12416, HV12928, HV13440, HV13952, HV256, HV768, HV1280, HV1792, HV2304, HV2816, HV3328, HV3840, HV4352, HV4864, HV5376, HV5888, HV6400, HV6912, HV7424, HV7936, HV8448, HV8960, HV9472, HV9984, HV10496, HV11008, HV11520, HV12032, HV12544, HV13056, HV13568, HV14080, HV384, HV896, HV1408, HV1920, HV2432, HV2944, HV3456, HV3968, HV4480, HV4992, HV5504, HV6016, HV6528, HV7040, HV7552, HV8064, HV8576, HV9088, HV9600, HV10112, HV10624, HV11136, HV11648, HV12160, HV12672, HV13184, HV13696, HV14208⟩, ⟨HX0, HX512, HX1024, HX1536, HX2048, HX2560, HX3072, HX3584, HX4096, HX4608, HX5120, HX5632, HX6144, HX6656, HX7168, HX7680, HX8192, HX8704, HX9216, HX9728, HX10240, HX10752, HX11264, HX11776, HX12288, HX12800, HX13312, HX13824, HX128, HX640, HX1152, HX1664, HX2176, HX2688, HX3200, HX3712, HX4224, HX4736, HX5248, HX5760, HX6272, HX6784, HX7296, HX7808, HX8320, HX8832, HX9344, HX9856, HX10368, HX10880, HX11392, HX11904, HX12416, HX12928, HX13440, HX13952, HX256, HX768, HX1280, HX1792, HX2304, HX2816, HX3328, HX3840, HX4352, HX4864, HX5376, HX5888, HX6400, HX6912, HX7424, HX7936, HX8448, HX8960, HX9472, HX9984, HX10496, HX11008, HX11520, HX12032, HX12544, HX13056, HX13568, HX14080, HX384, HX896, HX1408, HX1920, HX2432, HX2944, HX3456, HX3968, HX4480, HX4992, HX5504, HX6016, HX6528, HX7040, HX7552, HX8064, HX8576, HX9088, HX9600, HX10112, HX10624, HX11136, HX11648, HX12160, HX12672, HX13184, HX13696, HX14208⟩, ⟨%f0, %hf0, H0⟩, ⟨%d1, %f1, -, H1⟩, ⟨%d2, %f2, -, H2⟩, ⟨%d3, %f3, -, H3⟩, ⟨%d4, %f4, -, H4⟩, ⟨%ds1, %fs1, -, HS1⟩, ⟨%ds2, %fs2, -, HS2⟩, ⟨%ds3, %fs3, -, HS3⟩, Hq0, Hq1, Hq2, Hq3, HW, Hk⟩
    obtain rfl := harg1.eq_unread hf0
    sl_exec
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HV0 HV512 HV1024 HV1536 HV2048 HV2560 HV3072 HV3584 HV4096 HV4608 HV5120 HV5632 HV6144 HV6656 HV7168 HV7680 HV8192 HV8704 HV9216 HV9728 HV10240 HV10752 HV11264 HV11776 HV12288 HV12800 HV13312 HV13824 HV128 HV640 HV1152 HV1664 HV2176 HV2688 HV3200 HV3712 HV4224 HV4736 HV5248 HV5760 HV6272 HV6784 HV7296 HV7808 HV8320 HV8832 HV9344 HV9856 HV10368 HV10880 HV11392 HV11904 HV12416 HV12928 HV13440 HV13952 HV256 HV768 HV1280 HV1792 HV2304 HV2816 HV3328 HV3840 HV4352 HV4864 HV5376 HV5888 HV6400 HV6912 HV7424 HV7936 HV8448 HV8960 HV9472 HV9984 HV10496 HV11008 HV11520 HV12032 HV12544 HV13056 HV13568 HV14080 HV384 HV896 HV1408 HV1920 HV2432 HV2944 HV3456 HV3968 HV4480 HV4992 HV5504 HV6016 HV6528 HV7040 HV7552 HV8064 HV8576 HV9088 HV9600 HV10112 HV10624 HV11136 HV11648 HV12160 HV12672 HV13184 HV13696 HV14208]
    · unfold winsE
      isplitl [HV0]; · iexists _; iexact HV0
      isplitl [HV512]; · iexists _; iexact HV512
      isplitl [HV1024]; · iexists _; iexact HV1024
      isplitl [HV1536]; · iexists _; iexact HV1536
      isplitl [HV2048]; · iexists _; iexact HV2048
      isplitl [HV2560]; · iexists _; iexact HV2560
      isplitl [HV3072]; · iexists _; iexact HV3072
      isplitl [HV3584]; · iexists _; iexact HV3584
      isplitl [HV4096]; · iexists _; iexact HV4096
      isplitl [HV4608]; · iexists _; iexact HV4608
      isplitl [HV5120]; · iexists _; iexact HV5120
      isplitl [HV5632]; · iexists _; iexact HV5632
      isplitl [HV6144]; · iexists _; iexact HV6144
      isplitl [HV6656]; · iexists _; iexact HV6656
      isplitl [HV7168]; · iexists _; iexact HV7168
      isplitl [HV7680]; · iexists _; iexact HV7680
      isplitl [HV8192]; · iexists _; iexact HV8192
      isplitl [HV8704]; · iexists _; iexact HV8704
      isplitl [HV9216]; · iexists _; iexact HV9216
      isplitl [HV9728]; · iexists _; iexact HV9728
      isplitl [HV10240]; · iexists _; iexact HV10240
      isplitl [HV10752]; · iexists _; iexact HV10752
      isplitl [HV11264]; · iexists _; iexact HV11264
      isplitl [HV11776]; · iexists _; iexact HV11776
      isplitl [HV12288]; · iexists _; iexact HV12288
      isplitl [HV12800]; · iexists _; iexact HV12800
      isplitl [HV13312]; · iexists _; iexact HV13312
      isplitl [HV13824]; · iexists _; iexact HV13824
      isplitl [HV128]; · iexists _; iexact HV128
      isplitl [HV640]; · iexists _; iexact HV640
      isplitl [HV1152]; · iexists _; iexact HV1152
      isplitl [HV1664]; · iexists _; iexact HV1664
      isplitl [HV2176]; · iexists _; iexact HV2176
      isplitl [HV2688]; · iexists _; iexact HV2688
      isplitl [HV3200]; · iexists _; iexact HV3200
      isplitl [HV3712]; · iexists _; iexact HV3712
      isplitl [HV4224]; · iexists _; iexact HV4224
      isplitl [HV4736]; · iexists _; iexact HV4736
      isplitl [HV5248]; · iexists _; iexact HV5248
      isplitl [HV5760]; · iexists _; iexact HV5760
      isplitl [HV6272]; · iexists _; iexact HV6272
      isplitl [HV6784]; · iexists _; iexact HV6784
      isplitl [HV7296]; · iexists _; iexact HV7296
      isplitl [HV7808]; · iexists _; iexact HV7808
      isplitl [HV8320]; · iexists _; iexact HV8320
      isplitl [HV8832]; · iexists _; iexact HV8832
      isplitl [HV9344]; · iexists _; iexact HV9344
      isplitl [HV9856]; · iexists _; iexact HV9856
      isplitl [HV10368]; · iexists _; iexact HV10368
      isplitl [HV10880]; · iexists _; iexact HV10880
      isplitl [HV11392]; · iexists _; iexact HV11392
      isplitl [HV11904]; · iexists _; iexact HV11904
      isplitl [HV12416]; · iexists _; iexact HV12416
      isplitl [HV12928]; · iexists _; iexact HV12928
      isplitl [HV13440]; · iexists _; iexact HV13440
      isplitl [HV13952]; · iexists _; iexact HV13952
      isplitl [HV256]; · iexists _; iexact HV256
      isplitl [HV768]; · iexists _; iexact HV768
      isplitl [HV1280]; · iexists _; iexact HV1280
      isplitl [HV1792]; · iexists _; iexact HV1792
      isplitl [HV2304]; · iexists _; iexact HV2304
      isplitl [HV2816]; · iexists _; iexact HV2816
      isplitl [HV3328]; · iexists _; iexact HV3328
      isplitl [HV3840]; · iexists _; iexact HV3840
      isplitl [HV4352]; · iexists _; iexact HV4352
      isplitl [HV4864]; · iexists _; iexact HV4864
      isplitl [HV5376]; · iexists _; iexact HV5376
      isplitl [HV5888]; · iexists _; iexact HV5888
      isplitl [HV6400]; · iexists _; iexact HV6400
      isplitl [HV6912]; · iexists _; iexact HV6912
      isplitl [HV7424]; · iexists _; iexact HV7424
      isplitl [HV7936]; · iexists _; iexact HV7936
      isplitl [HV8448]; · iexists _; iexact HV8448
      isplitl [HV8960]; · iexists _; iexact HV8960
      isplitl [HV9472]; · iexists _; iexact HV9472
      isplitl [HV9984]; · iexists _; iexact HV9984
      isplitl [HV10496]; · iexists _; iexact HV10496
      isplitl [HV11008]; · iexists _; iexact HV11008
      isplitl [HV11520]; · iexists _; iexact HV11520
      isplitl [HV12032]; · iexists _; iexact HV12032
      isplitl [HV12544]; · iexists _; iexact HV12544
      isplitl [HV13056]; · iexists _; iexact HV13056
      isplitl [HV13568]; · iexists _; iexact HV13568
      isplitl [HV14080]; · iexists _; iexact HV14080
      isplitl [HV384]; · iexists _; iexact HV384
      isplitl [HV896]; · iexists _; iexact HV896
      isplitl [HV1408]; · iexists _; iexact HV1408
      isplitl [HV1920]; · iexists _; iexact HV1920
      isplitl [HV2432]; · iexists _; iexact HV2432
      isplitl [HV2944]; · iexists _; iexact HV2944
      isplitl [HV3456]; · iexists _; iexact HV3456
      isplitl [HV3968]; · iexists _; iexact HV3968
      isplitl [HV4480]; · iexists _; iexact HV4480
      isplitl [HV4992]; · iexists _; iexact HV4992
      isplitl [HV5504]; · iexists _; iexact HV5504
      isplitl [HV6016]; · iexists _; iexact HV6016
      isplitl [HV6528]; · iexists _; iexact HV6528
      isplitl [HV7040]; · iexists _; iexact HV7040
      isplitl [HV7552]; · iexists _; iexact HV7552
      isplitl [HV8064]; · iexists _; iexact HV8064
      isplitl [HV8576]; · iexists _; iexact HV8576
      isplitl [HV9088]; · iexists _; iexact HV9088
      isplitl [HV9600]; · iexists _; iexact HV9600
      isplitl [HV10112]; · iexists _; iexact HV10112
      isplitl [HV10624]; · iexists _; iexact HV10624
      isplitl [HV11136]; · iexists _; iexact HV11136
      isplitl [HV11648]; · iexists _; iexact HV11648
      isplitl [HV12160]; · iexists _; iexact HV12160
      isplitl [HV12672]; · iexists _; iexact HV12672
      isplitl [HV13184]; · iexists _; iexact HV13184
      isplitl [HV13696]; · iexists _; iexact HV13696
      iexists _; iexact HV14208
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [HX0 HX512 HX1024 HX1536 HX2048 HX2560 HX3072 HX3584 HX4096 HX4608 HX5120 HX5632 HX6144 HX6656 HX7168 HX7680 HX8192 HX8704 HX9216 HX9728 HX10240 HX10752 HX11264 HX11776 HX12288 HX12800 HX13312 HX13824 HX128 HX640 HX1152 HX1664 HX2176 HX2688 HX3200 HX3712 HX4224 HX4736 HX5248 HX5760 HX6272 HX6784 HX7296 HX7808 HX8320 HX8832 HX9344 HX9856 HX10368 HX10880 HX11392 HX11904 HX12416 HX12928 HX13440 HX13952 HX256 HX768 HX1280 HX1792 HX2304 HX2816 HX3328 HX3840 HX4352 HX4864 HX5376 HX5888 HX6400 HX6912 HX7424 HX7936 HX8448 HX8960 HX9472 HX9984 HX10496 HX11008 HX11520 HX12032 HX12544 HX13056 HX13568 HX14080 HX384 HX896 HX1408 HX1920 HX2432 HX2944 HX3456 HX3968 HX4480 HX4992 HX5504 HX6016 HX6528 HX7040 HX7552 HX8064 HX8576 HX9088 HX9600 HX10112 HX10624 HX11136 HX11648 HX12160 HX12672 HX13184 HX13696 HX14208]
    · isplitl [HX0]; · iexact HX0
      isplitl [HX512]; · iexact HX512
      isplitl [HX1024]; · iexact HX1024
      isplitl [HX1536]; · iexact HX1536
      isplitl [HX2048]; · iexact HX2048
      isplitl [HX2560]; · iexact HX2560
      isplitl [HX3072]; · iexact HX3072
      isplitl [HX3584]; · iexact HX3584
      isplitl [HX4096]; · iexact HX4096
      isplitl [HX4608]; · iexact HX4608
      isplitl [HX5120]; · iexact HX5120
      isplitl [HX5632]; · iexact HX5632
      isplitl [HX6144]; · iexact HX6144
      isplitl [HX6656]; · iexact HX6656
      isplitl [HX7168]; · iexact HX7168
      isplitl [HX7680]; · iexact HX7680
      isplitl [HX8192]; · iexact HX8192
      isplitl [HX8704]; · iexact HX8704
      isplitl [HX9216]; · iexact HX9216
      isplitl [HX9728]; · iexact HX9728
      isplitl [HX10240]; · iexact HX10240
      isplitl [HX10752]; · iexact HX10752
      isplitl [HX11264]; · iexact HX11264
      isplitl [HX11776]; · iexact HX11776
      isplitl [HX12288]; · iexact HX12288
      isplitl [HX12800]; · iexact HX12800
      isplitl [HX13312]; · iexact HX13312
      isplitl [HX13824]; · iexact HX13824
      isplitl [HX128]; · iexact HX128
      isplitl [HX640]; · iexact HX640
      isplitl [HX1152]; · iexact HX1152
      isplitl [HX1664]; · iexact HX1664
      isplitl [HX2176]; · iexact HX2176
      isplitl [HX2688]; · iexact HX2688
      isplitl [HX3200]; · iexact HX3200
      isplitl [HX3712]; · iexact HX3712
      isplitl [HX4224]; · iexact HX4224
      isplitl [HX4736]; · iexact HX4736
      isplitl [HX5248]; · iexact HX5248
      isplitl [HX5760]; · iexact HX5760
      isplitl [HX6272]; · iexact HX6272
      isplitl [HX6784]; · iexact HX6784
      isplitl [HX7296]; · iexact HX7296
      isplitl [HX7808]; · iexact HX7808
      isplitl [HX8320]; · iexact HX8320
      isplitl [HX8832]; · iexact HX8832
      isplitl [HX9344]; · iexact HX9344
      isplitl [HX9856]; · iexact HX9856
      isplitl [HX10368]; · iexact HX10368
      isplitl [HX10880]; · iexact HX10880
      isplitl [HX11392]; · iexact HX11392
      isplitl [HX11904]; · iexact HX11904
      isplitl [HX12416]; · iexact HX12416
      isplitl [HX12928]; · iexact HX12928
      isplitl [HX13440]; · iexact HX13440
      isplitl [HX13952]; · iexact HX13952
      isplitl [HX256]; · iexact HX256
      isplitl [HX768]; · iexact HX768
      isplitl [HX1280]; · iexact HX1280
      isplitl [HX1792]; · iexact HX1792
      isplitl [HX2304]; · iexact HX2304
      isplitl [HX2816]; · iexact HX2816
      isplitl [HX3328]; · iexact HX3328
      isplitl [HX3840]; · iexact HX3840
      isplitl [HX4352]; · iexact HX4352
      isplitl [HX4864]; · iexact HX4864
      isplitl [HX5376]; · iexact HX5376
      isplitl [HX5888]; · iexact HX5888
      isplitl [HX6400]; · iexact HX6400
      isplitl [HX6912]; · iexact HX6912
      isplitl [HX7424]; · iexact HX7424
      isplitl [HX7936]; · iexact HX7936
      isplitl [HX8448]; · iexact HX8448
      isplitl [HX8960]; · iexact HX8960
      isplitl [HX9472]; · iexact HX9472
      isplitl [HX9984]; · iexact HX9984
      isplitl [HX10496]; · iexact HX10496
      isplitl [HX11008]; · iexact HX11008
      isplitl [HX11520]; · iexact HX11520
      isplitl [HX12032]; · iexact HX12032
      isplitl [HX12544]; · iexact HX12544
      isplitl [HX13056]; · iexact HX13056
      isplitl [HX13568]; · iexact HX13568
      isplitl [HX14080]; · iexact HX14080
      isplitl [HX384]; · iexact HX384
      isplitl [HX896]; · iexact HX896
      isplitl [HX1408]; · iexact HX1408
      isplitl [HX1920]; · iexact HX1920
      isplitl [HX2432]; · iexact HX2432
      isplitl [HX2944]; · iexact HX2944
      isplitl [HX3456]; · iexact HX3456
      isplitl [HX3968]; · iexact HX3968
      isplitl [HX4480]; · iexact HX4480
      isplitl [HX4992]; · iexact HX4992
      isplitl [HX5504]; · iexact HX5504
      isplitl [HX6016]; · iexact HX6016
      isplitl [HX6528]; · iexact HX6528
      isplitl [HX7040]; · iexact HX7040
      isplitl [HX7552]; · iexact HX7552
      isplitl [HX8064]; · iexact HX8064
      isplitl [HX8576]; · iexact HX8576
      isplitl [HX9088]; · iexact HX9088
      isplitl [HX9600]; · iexact HX9600
      isplitl [HX10112]; · iexact HX10112
      isplitl [HX10624]; · iexact HX10624
      isplitl [HX11136]; · iexact HX11136
      isplitl [HX11648]; · iexact HX11648
      isplitl [HX12160]; · iexact HX12160
      isplitl [HX12672]; · iexact HX12672
      isplitl [HX13184]; · iexact HX13184
      isplitl [HX13696]; · iexact HX13696
      iexact HX14208
    iexists _; iexact HW

end Cert.RotKernelIdeal.Gen

end
-- ==== Proof.IdealRotFrame.lean ====
/-
   The frame of the rotation call, in program `RotKernelIdeal`: the proof data, the body obligation, the run of the whole program, and the frame claim.
-/
module

public import proofs.«01_k».proof.Proof.IdealRotRun
public import Idealize.ShloMosaic.Lib.Claim

@[expose] public section

-- membership in a rectangle of production extents (`View.cover_of_tiled`): the elaborator's structural look
-- recurses once per coordinate of the long axes
set_option maxRecDepth 16384

noncomputable section

namespace Cert.RotKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (1, 2, 3, 4): nothing reads what the kernel leaves in them, so nothing
    of it is named (Lib/Pipeline/Dat.lean `Dat.toRForget`). -/
def forgets0 : Fin 5 → Bool := fun w => w.val == 1 || w.val == 2 || w.val == 3 || w.val == 4

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d))

/-- The staged operand's scratch, owned at some contents, is its windows at some contents. -/
theorem scr_owns (c : Dev nD) : (iprop(∃ d, owns (c : Thread nD τ) scM0_0 fullShare d) : sProp 𝕄) = iprop(∃ f, wins c scM0_0 f) := by
  have h : (fun f : HbBuf0 (F := F) c scM0_0 => (hbPt0 c scM0_0 f : sProp 𝕄)) = fun f => wins c scM0_0 f := funext (scr_split c)
  have h' : (iprop(∃ d, owns (c : Thread nD τ) scM0_0 fullShare d) : sProp 𝕄) = iprop(∃ f, hbPt0 c scM0_0 f) := by
    simp only [scM0_0, owns_whole]; try rfl
  exact h'.trans (congrArg _ h)

theorem scr_joinE (c : Dev nD) (f₀ : HbBuf0 (F := F) c scM0_0) : winsE c scM0_0 ⊢ (iprop(∃ f, wins c scM0_0 f) : sProp 𝕄) := by
  have h : (fun f : HbBuf0 (F := F) c scM0_0 => (hbPt0 c scM0_0 f : sProp 𝕄)) = fun f => wins c scM0_0 f := funext (scr_split c)
  exact (scr_join c f₀).trans (Entails.of_eq (congrArg _ h))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0]
  rw [show (dats m 0 c).Φ t.castSucc = Pipeline.ΦD osem0 spec0 H0 (V m) c from rfl, PhiD0_eq, scr_owns]
  unfold Dat.owesAt Pipeline.owesWithin
  rw [show (dats m 0 c).owed t.castSucc = 0 from rfl, show (dats m 0 c).owed t.succ = 0 from rfl, hbm_split]
  iintro ⟨⟨⟨⟨%fv, HS0⟩, HS1, HS2, HS3⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
  iapply ((kernelRun0_A c _ _ _ _ _ _ _ _ _ _ _ _ _ _ _ _ fv (iblk m c 0 t) (V m c main_v0)) W _)
  isplitl [HS0]; · iexact HS0
  isplitl [Hh0]; · iexact Hh0
  isplitl [H0]; · iexact H0
  isplitl [H1]; · iexists _; iexact H1
  isplitl [H2]; · iexists _; iexact H2
  isplitl [H3]; · iexists _; iexact H3
  isplitl [H4]; · iexists _; iexact H4
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [HW]; · iexact HW
  iintro ⟨H0, H1, H2, H3, H4, HS0, HS1, HS2, HS3, Hq0, Hq1, Hq2, Hq3, Hh0, ⟨%W', HW'⟩⟩
  isplitl [HS0 HS1 HS2 HS3 Hg Hq0 Hq1 Hq2 Hq3 Hh0]
  · isplitl [HS0 HS1 HS2 HS3]
    · isplitl [HS0]; · iapply (scr_joinE c fv); iexact HS0
      isplitl [HS1]; · iexact HS1
      isplitl [HS2]; · iexact HS2
      iexact HS3
    isplitl [Hg]
    · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 1, 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_RotKernelIdeal`'s statement (Defs.lean) at any `F` — Proof.lean cites it at `Bits`:
    `theorem Cert.Proof.claim : Cert.Claim := ⟨Cert.RotKernelIdeal.Gen.facts, fun m ρ _ => Cert.RotKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.RotKernelIdeal.Gen

end
-- ==== Proof.Block.lean ====
/-
  WHAT ONE BLOCK COMPUTES. The kernel's body unpacks its 512 rows of packed weights in 56 groups of 128 columns: the low nibbles
  of a group become one tile of the first scratch array, the high nibbles one tile of the second, and both are added to the
  running column sums in the third. This module names the tiles once, as functions of the group's number, and shows that the
  block the body leaves is the closing formula over them (`outs`).
-/
module

public import proofs.«01_k».proof.Proof.Gen.KernelIdeal.Value
public import Idealize.ShloMosaic.Lib.Pipeline.ValueKit
public import Idealize.ShloMosaic.Lib.Pipeline.ReadBack

@[expose] public section
set_option maxRecDepth 16384
noncomputable section
namespace Cert.KernelIdeal.Block
open Idealize.ShloMosaic Idealize.ShloMosaic.TcCoe Idealize.ShloMosaic.Tactic
open Idealize.SL Idealize.SL.Sem
open Cert.KernelIdeal Cert.KernelIdeal.Gen Cert.KernelIdeal.Value
variable {F : FTy → Type} [FloatOps F]
variable (m : (ℓ : Loc nD τ sig) → Buf (Elt F) ℓ)

/-- Column `n` of the 112 columns of multipliers. -/
theorem slicesCol (n : ℕ) (h : n < 112) : S512x112.Slices ![0, n] S512x1 :=
  ⟨rfl, fun a => by
    match a with
    | ⟨0, _⟩ => exact Nat.le_refl 512
    | ⟨1, _⟩ => exact h⟩

/-- The 128 columns of group `g` lie within the 7168. -/
theorem inbGroup (g : ℕ) (h : g < 56) : ∀ a, (![0, 128 * g] : Fin 2 → Nat) a + S512x128.size a ≤ S512x7168.size a := fun a => by
  match a with
  | ⟨0, _⟩ => exact Nat.le_refl 512
  | ⟨1, _⟩ => show 128 * g + 128 ≤ 7168; omega

/-- Columns `128 g … 128 g + 127` of a block of 7168 columns. -/
abbrev groupRect (g : ℕ) (h : g < 56) : Rect S512x7168 := Rect.unit (s := S512x7168) ![0, 128 * g] S512x128.size (inbGroup g h)

/-- A tile of sixteenfold nibbles, each row scaled by its multiplier in column `n`. -/
def scaled (w : IVec S128x128 32) (mu : FVec F S512x112 .f32) (n : ℕ) (h : n < 112) : FVec F S512x128 .bf16 :=
  mulf (sitofp .bf16 (andi w (broadcast S128x128 4042322160#32) |> fun w => bitcast S512x128 8 w bitcasts_S128x128_w32_S512x128_w8 : IVec S512x128 8))
    (broadcastTo S512x128 (truncf .bf16 (extractStridedSlice S512x1 ![0, n] mu (slicesCol n h)) bitsLt_bf16_f32) broadcasts_S512x1_S512x128)

/-- The 512 × 128 bytes of group `g`, read as words: four rows to a word. -/
def words (X : Vec F S512x7168 .i8) (g : ℕ) (h : g < 56) : IVec S128x128 32 :=
  bitcast S128x128 32 (View.ld X (groupRect g h) : Vec F S512x128 .i8) bitcasts_S512x128_w8_S128x128_w32

/-- The tile of the low nibbles of group `g`. -/
def loTile (X : Vec F S512x7168 .i8) (mu : FVec F S512x112 .f32) (g : ℕ) (h : g < 56) : FVec F S512x128 .bf16 :=
  scaled (shli (words X g h) (broadcast S128x128 4#32)) mu g (by omega)

/-- The tile of the high nibbles of group `g`. -/
def hiTile (X : Vec F S512x7168 .i8) (mu : FVec F S512x112 .f32) (g : ℕ) (h : g < 56) : FVec F S512x128 .bf16 :=
  scaled (words X g h) mu (g + 56) (by omega)

/-- A tile as it is stored: cast to eight bits. -/
def stored (T : FVec F S512x128 .bf16) : FVec F S512x128 .fp8e4m3 :=
  shapeCast S512x128 (truncf .fp8e4m3 T bitsLt_fp8e4m3_bf16) shapeCasts_S512x128_S512x128

/-- The stores of the first `n` groups' tiles, the last on top. -/
def pieces (T : (g : ℕ) → g < 56 → FVec F S512x128 .bf16) : (n : ℕ) → n ≤ 56 → List (View.Piece (Elt F) S512x7168 .fp8e4m3)
  | 0, _ => []
  | n + 1, h => ⟨groupRect n h, stored (T n h)⟩ :: pieces T n (Nat.le_of_succ_le h)

/-- A tile added to the running sums. -/
def addTile (s : FVec F S512x128 .f32) (T : FVec F S512x128 .bf16) : FVec F S512x128 .f32 :=
  shapeCast S512x128 (addf s (extf .f32 T bitsLt_bf16_f32)) shapeCasts_S512x128_S512x128

/-- The running sums after the first `n` groups: both tiles of each group added, the low one first. -/
def sums (X : Vec F S512x7168 .i8) (mu : FVec F S512x112 .f32) : (n : ℕ) → n ≤ 56 → FVec F S512x128 .f32
  | 0, _ => k0_pay3
  | n + 1, h => addTile (addTile (sums X mu n (Nat.le_of_succ_le h)) (loTile X mu n h)) (hiTile X mu n h)

theorem readCov_whole {κ : Kind} {sp : Space} (v : View sig κ sp S512x128 .f32) (h h') (w : S512x128.Idx → Elt F .f32) (L : List (View.Piece (Elt F) S512x128 .f32)) :
    v.readCov ((⟨Rect.unit (s := S512x128) ![0, 0] ![512, 128] h, w⟩ : View.Piece (Elt F) S512x128 .f32) :: L)
      (Rect.unit (s := S512x128) ![0, 0] ![512, 128] h').toLoadRect = w :=
  View.readCov_cons_unit_lit' (S := S512x128) v h h' w L (by decide) (by decide)

theorem canon_whole (h) (w : S256x512.Idx → Elt F .bf16) (L : List (View.Piece (Elt F) S256x512 .bf16)) :
    View.canon ((⟨Rect.unit (s := S256x512) ![0, 0] ![256, 512] h, w⟩ : View.Piece (Elt F) S256x512 .bf16) :: L) = w :=
  View.canon_cons_unit_lit' (S := S256x512) h w L (by decide)

theorem ld_whole112 (h) (X : S512x112.Idx → Elt F .i8) : View.ld (Val := Elt F) (e' := .i8) X (Rect.unit (s := S512x112) ![0, 0] ![512, 112] h) = X :=
  View.ld_unit_lit' (S := S512x112) h X (by decide)

theorem ld_whole256 (h) (X : S1x256.Idx → Elt F .f32) : View.ld (Val := Elt F) (e' := .f32) X (Rect.unit (s := S1x256) ![0, 0] ![1, 256] h) = X :=
  View.ld_unit_lit' (S := S1x256) h X (by decide)

theorem ld_whole512 (h) (X : S1x512.Idx → Elt F .f32) : View.ld (Val := Elt F) (e' := .f32) X (Rect.unit (s := S1x512) ![0, 0] ![1, 512] h) = X :=
  View.ld_unit_lit' (S := S1x512) h X (by decide)

set_option maxHeartbeats 2000000 in
theorem outs (c : Dev nD) (t : Fin cfg0.N) : outsAt0 m c t = k0_pay1
    (k0_pay439 (scM0_0.view.readCov (pieces (loTile (iblk m c 0 t) (k0_pay2 (iblk m c 1 t))) 56 (Nat.le_refl _)) (Rect.unit ![0, 0] S512x7168.size inb_S512x7168_S512x7168_0_0).toLoadRect)
      (View.ld (iblk m c 2 t) (Rect.unit ![0, 0] S7168x256.size inb_S14336x256_S7168x256_0_0))
      (scM0_1.view.readCov (pieces (hiTile (iblk m c 0 t) (k0_pay2 (iblk m c 1 t))) 56 (Nat.le_refl _)) (Rect.unit ![0, 0] S512x7168.size inb_S512x7168_S512x7168_0_0).toLoadRect)
      (View.ld (iblk m c 2 t) (Rect.unit ![7168, 0] S7168x256.size inb_S14336x256_S7168x256_7168_0))
      (sums (iblk m c 0 t) (k0_pay2 (iblk m c 1 t)) 56 (Nat.le_refl _)) (iblk m c 4 t) (iblk m c 3 t)) (k0_pay440 (iblk m c 5 t)) := by
  unfold outsAt0 out0_A_6
  rw [View.read_writes_eq_canon _ _ _ (fun y => cover0_A_6 c _ _ _ _ _ _ _ _ _ _ _ _ _ _ _ _ _ _ _ _ _ _ _ _ _ _ _ y)]
  unfold kernelRun0_A
  dsimp only
  sl_unfold_words
  simp only [↓canon_whole, ↓readCov_whole, View.readAt_eq_ld, Memref.IsWhole.read_unread, ld_whole112, ld_whole256, ld_whole512]
  rfl
end Cert.KernelIdeal.Block
-- ==== Proof.Spec.lean ====
/-
  THE MATHEMATICS, in the real numbers. A packed byte holds two signed four-bit codes; a group of 128 columns shares one exponent
  `e`, and a weight is its code times 2^(-e). The product takes the low codes against the first 7168 rows of the activations and
  the high codes against the last 7168, corrects by the zero point times the weights' row sum, and scales twice.
  The two facts below tie the kernel's arithmetic to it: the upper nibble of a byte, read as a signed byte, is sixteen times the
  code; and the word `max (127 - e) 0` shifted into the exponent field, read as a float and divided by sixteen, is 2^(-e) / 16.
-/
module

public import Idealize.ShloMosaic.PureOps.Ideal.Laws
public import Idealize.ShloMosaic.Lib.ValueIdxCore
public import Idealize.ShloMosaic.Lib.IdealHost
public import Idealize.ShloMosaic.Lib.BitcastFour

@[expose] public section
noncomputable section
namespace DownProj
open Idealize.ShloMosaic Idealize.ShloMosaic.ValueIdx
open scoped BigOperators

/-- A four-bit code as a signed number. -/
def signed (n : ℕ) : ℤ := if 8 ≤ n then (n : ℤ) - 16 else n

/-- A weight: its code times 2^(-e). -/
def weight (n : ℕ) (e : BitVec 8) : EReal := (((signed n : ℤ) : ℝ) * (2 : ℝ) ^ (-(e.toNat : ℤ)) : ℝ)

/-- The shape of a matrix. -/
abbrev Mat (a b : ℕ) : Shape := ⟨2, ![a, b]⟩

/-- The weight of row `n`, column `k` of the low half. -/
def low {N : ℕ} (X : (Mat N 7168).Idx → BitVec 8) (E : (Mat N 112).Idx → BitVec 8) (n : Fin N) (k : Fin 7168) : EReal :=
  weight ((X (ix2 n k)).toNat % 16) (E (ix2 n ⟨k.val / 128, by omega⟩))

/-- The weight of row `n`, column `k` of the high half. -/
def high {N : ℕ} (X : (Mat N 7168).Idx → BitVec 8) (E : (Mat N 112).Idx → BitVec 8) (n : Fin N) (k : Fin 7168) : EReal :=
  weight ((X (ix2 n k)).toNat / 16) (E (ix2 n ⟨k.val / 128 + 56, by omega⟩))

/-- The result at token `s`, output feature `n`: the two half products, less the zero point times the row sums, scaled. -/
def out {N : ℕ} (X : (Mat N 7168).Idx → BitVec 8) (E : (Mat N 112).Idx → BitVec 8) (A : (Mat 14336 256).Idx → EReal)
    (SC Z : (Mat 1 256).Idx → EReal) (ws : EReal) (s : Fin 256) (n : Fin N) : EReal :=
  ((∑ k : Fin 7168, low X E n k * A (ix2 ⟨k.val, by omega⟩ s) + ∑ k : Fin 7168, high X E n k * A (ix2 ⟨7168 + k.val, by omega⟩ s)
      - Z (ix2 0 s) * (∑ k : Fin 7168, low X E n k + ∑ k : Fin 7168, high X E n k)) * SC (ix2 0 s)) * ws

/-! ## The codes -/

theorem low_code (b : BitVec 8) : (b <<< 4 &&& 0xF0#8).toInt = 16 * signed (b.toNat % 16) := by
  have h : ∀ k : Fin 256, ((BitVec.ofFin (w := 8) k) <<< 4 &&& 0xF0#8).toInt = 16 * signed (k.val % 16) := by decide +kernel
  cases b with | ofFin k => exact h k

theorem high_code (b : BitVec 8) : (b &&& 0xF0#8).toInt = 16 * signed (b.toNat / 16) := by
  have h : ∀ k : Fin 256, ((BitVec.ofFin (w := 8) k) &&& 0xF0#8).toInt = 16 * signed (k.val / 16) := by decide +kernel
  cases b with | ofFin k => exact h k

/-! ## The multipliers -/

/-- The word whose float reading is 2^(-e). -/
abbrev expWord (e : BitVec 8) : BitVec 32 := IntOp.shli .vector (IntOp.maxsi (IntOp.subi 127#32 (e.setWidth 32)) 0#32) 23#32

theorem expWord_fields_fin : ∀ k : Fin 256, k.val ≤ 126 → (expWord (BitVec.ofFin (w := 8) k)).extractLsb' 31 1 = 0#1
    ∧ ((expWord (BitVec.ofFin (w := 8) k)).extractLsb' 23 8).toNat = 127 - k.val ∧ ((expWord (BitVec.ofFin (w := 8) k)).extractLsb' 0 23).toNat = 0 := by
  decide +kernel

theorem expWord_fields (e : BitVec 8) (h : e.toNat ≤ 126) : (expWord e).extractLsb' 31 1 = 0#1
    ∧ ((expWord e).extractLsb' 23 8).toNat = 127 - e.toNat ∧ ((expWord e).extractLsb' 0 23).toNat = 0 := by
  exact expWord_fields_fin e.toFin h

theorem ofBits_expWord (e : BitVec 8) (h : e.toNat ≤ 126) : Ideal.ofBits .f32 (expWord e) = (((2 : ℝ) ^ (-(e.toNat : ℤ)) : ℝ) : EReal) := by
  obtain ⟨h1, h2, h3⟩ := expWord_fields e h
  show Ideal.ieee 8 23 (expWord e) = _
  unfold Ideal.ieee
  simp only [h1, h2, h3]
  rw [if_neg (by omega), if_neg (by omega)]
  refine congrArg (fun r : ℝ => (r : EReal)) ?_
  have hz : (((127 - e.toNat : ℕ) : ℤ) - (2 ^ (8 - 1) - 1) - (23 : ℕ)) = -(e.toNat : ℤ) - 23 := by
    rw [Nat.cast_sub (by omega)]; norm_num
  rw [hz, zpow_sub₀ (by norm_num)]
  norm_num
  ring

theorem ofBits_sixteenth : Ideal.ofBits .f32 0x3D800000#32 = (((1 : ℝ) / 16 : ℝ) : EReal) := by
  simp [Ideal.ofBits, Ideal.ieee, -EReal.coe_mul]; norm_num

/-- Sixteen times the code, times 2^(-e) over sixteen: the weight. -/
theorem weight_eq (n : ℕ) (e : BitVec 8) (z : ℤ) (hz : z = 16 * signed n) :
    (((z : ℝ) : EReal) * ((((2 : ℝ) ^ (-(e.toNat : ℤ)) : ℝ) : EReal) * (((1 : ℝ) / 16 : ℝ) : EReal))) = weight n e := by
  rw [weight, ← EReal.coe_mul, ← EReal.coe_mul, hz]
  congr 1
  push_cast
  ring

/-! ## Bytes within words -/

/-- Read back at eight bits: row `r` of a lane is byte `r % 4` of word `r / 4`. -/
theorem byte_getLsbD {R n : ℕ} (w : (Mat R n).Idx → BitVec 32) (h : (Mat R n).Bitcasts 32 (Mat (4 * R) n) 8) (r : Fin (4 * R)) (l : Fin n)
    (q : ℕ) (hq : q < 8) : (bitcast (Mat (4 * R) n) 8 w h (ix2 r l)).getLsbD q = (w (ix2 ⟨r.val / 4, by omega⟩ l)).getLsbD (8 * (r.val % 4) + q) := by
  rw [bitcast_getLsbD w h _ q hq (by decide)]
  have hr : (Mat (4 * R) n).row (ix2 r l) = r.val := rfl
  rw [show ((Mat (4 * R) n).row (ix2 r l) * 8 + q) % 32 = 8 * (r.val % 4) + q by rw [hr]; omega]
  congr 2
  funext c
  match c with
  | ⟨0, _⟩ => exact Fin.ext ((h.srcIdx_row _ _ _ ⟨0, Nat.zero_lt_two⟩ rfl).trans (by rw [hr]; show _ = r.val / 4; omega))
  | ⟨1, _⟩ => exact Fin.ext (h.srcIdx_other _ _ _ ⟨1, Nat.one_lt_two⟩ (by show ¬ 1 + 2 = 2; omega))

/-- The mask keeps the upper half of every byte. -/
theorem mask_getLsbD (p : ℕ) (h : p < 32) : (4042322160#32 : BitVec 32).getLsbD p = decide (4 ≤ p % 8) := by
  interval_cases p <;> rfl

theorem mask8_getLsbD (q : ℕ) (h : q < 8) : (0xF0#8 : BitVec 8).getLsbD q = decide (4 ≤ q) := by
  interval_cases q <;> rfl

/-- Four rows to a word, the words masked, read back as bytes: each byte masked. -/
theorem masked_high (x : (Mat 512 128).Idx → BitVec 8) (h : (Mat 512 128).Bitcasts 8 (Mat 128 128) 32)
    (h' : (Mat 128 128).Bitcasts 32 (Mat 512 128) 8) (r : Fin 512) (l : Fin 128) :
    bitcast (Mat 512 128) 8 (fun j => IntOp.andi (bitcast (Mat 128 128) 32 x h j) 4042322160#32) h' (ix2 r l) = x (ix2 r l) &&& 0xF0#8 := by
  apply BitVec.eq_of_getLsbD_eq
  intro q hq
  rw [byte_getLsbD (R := 128) _ h' r l q hq]
  show (bitcast (Mat 128 128) 32 x h (ix2 _ l) &&& 4042322160#32).getLsbD _ = _
  rw [BitVec.getLsbD_and, BitVec.getLsbD_and, bitcast_8_32_getLsbD_ix2 x h _ l _ (by omega) r (by show r.val = 4 * (r.val / 4) + _; omega),
    mask_getLsbD _ (by omega), mask8_getLsbD q hq, show (8 * (r.val % 4) + q) % 8 = q by omega]

/-- The same with the words first shifted left by four: each byte shifted and masked. -/
theorem masked_low (x : (Mat 512 128).Idx → BitVec 8) (h : (Mat 512 128).Bitcasts 8 (Mat 128 128) 32)
    (h' : (Mat 128 128).Bitcasts 32 (Mat 512 128) 8) (r : Fin 512) (l : Fin 128) :
    bitcast (Mat 512 128) 8 (fun j => IntOp.andi (IntOp.shli .vector (bitcast (Mat 128 128) 32 x h j) 4#32) 4042322160#32) h' (ix2 r l)
      = x (ix2 r l) <<< 4 &&& 0xF0#8 := by
  apply BitVec.eq_of_getLsbD_eq
  intro q hq
  rw [byte_getLsbD (R := 128) _ h' r l q hq]
  show ((bitcast (Mat 128 128) 32 x h (ix2 _ l) <<< 4#32) &&& 4042322160#32).getLsbD _ = _
  rw [BitVec.getLsbD_and, BitVec.getLsbD_and, mask_getLsbD _ (by omega), mask8_getLsbD q hq, show (8 * (r.val % 4) + q) % 8 = q by omega]
  by_cases h4 : 4 ≤ q
  · rw [BitVec.shiftLeft_eq', BitVec.getLsbD_shiftLeft, BitVec.getLsbD_shiftLeft]
    have e4 : (4#32 : BitVec 32).toNat = 4 := rfl
    rw [e4, bitcast_8_32_getLsbD_ix2 x h _ l _ (by omega) r (by show r.val = 4 * (r.val / 4) + _; omega),
      show (8 * (r.val % 4) + q - 4) % 8 = q - 4 by omega]
    simp [hq, h4, show 8 * (r.val % 4) + q < 32 by omega, show ¬ 8 * (r.val % 4) + q < 4 by omega, show ¬ q < 4 by omega]
  · simp [h4]

end DownProj
-- ==== Proof.Tiles.lean ====
/-
  THE BLOCK, READ AT AN INDEX over the reals: each tile's entry is the weight its column names, the two scratch arrays therefore
  hold the low and the high weights of all 7168 columns, the running sums add up to the row sums, and the block the body leaves is
  the specification's `out` of the block's rows.
-/
module

public import proofs.«01_k».proof.Proof.Block
public import proofs.«01_k».proof.Proof.Spec
public import Idealize.ShloMosaic.Lib.Pointwise
public import Idealize.ShloMosaic.Lib.MatmulPlain
public import Idealize.ShloMosaic.Lib.ValueLayout

@[expose] public section
set_option maxRecDepth 16384
noncomputable section
namespace Cert.KernelIdeal.Block
open Idealize.ShloMosaic hiding ix1 ix2 eq_ix2
open Idealize.ShloMosaic.TcCoe Idealize.ShloMosaic.Tactic Idealize.ShloMosaic.ValueIdx
open Cert.KernelIdeal Cert.KernelIdeal.Gen Cert.KernelIdeal.Value
open DownProj
open scoped BigOperators

variable (X : Vec Ideal S512x7168 .i8) (E : Vec Ideal S512x112 .i8)

/-- Column `128 g + l`. -/
abbrev col (g : ℕ) (h : g < 56) (l : Fin 128) : Fin 7168 := ⟨128 * g + l.val, by omega⟩

theorem emb_group (g : ℕ) (h : g < 56) (r : Fin 512) (l : Fin 128) : (groupRect g h).emb (ix2 r l) = ix2 r (col g h l) := by
  funext a; apply Fin.ext
  match a with
  | ⟨0, _⟩ => show 0 + 1 * r.val = r.val; omega
  | ⟨1, _⟩ => show 128 * g + 1 * l.val = 128 * g + l.val; omega

/-- The multipliers. -/
theorem mult_apply (i : S512x112.Idx) (h : (E i).toNat ≤ 126) :
    k0_pay2 (F := Ideal) E i = ((((2 : ℝ) ^ (-((E i).toNat : ℤ)) : ℝ) : EReal) * (((1 : ℝ) / 16 : ℝ) : EReal)) := by
  show Ideal.ofBits .f32 (expWord (E i)) * Ideal.ofBits .f32 0x3D800000#32 = _
  rw [ofBits_expWord (E i) h, ofBits_sixteenth]

theorem scaled_apply (w : IVec S128x128 32) (mu : FVec Ideal S512x112 .f32) (n : ℕ) (h : n < 112) (r : Fin 512) (l : Fin 128) :
    scaled w mu n h (ix2 r l)
      = (((bitcast (Mat 512 128) 8 (fun j => IntOp.andi (w j) 4042322160#32) bitcasts_S128x128_w32_S512x128_w8 (ix2 r l)).toInt : ℝ) : EReal)
        * mu (ix2 r ⟨n, h⟩) := by
  show _ * _ = _ * _
  refine congrArg₂ (· * ·) rfl ?_
  refine (broadcastTo_apply _ _ _ (ix2 r (0 : Fin 1)) (fun a => ?_)).trans ?_
  · match a with
    | ⟨0, _⟩ => rfl
    | ⟨1, _⟩ => rfl
  · show mu _ = mu _
    congr 1
    funext a; apply Fin.ext
    match a with
    | ⟨0, _⟩ => exact Nat.zero_add _
    | ⟨1, _⟩ => rfl

theorem loTile_apply (hE : ∀ i, (E i).toNat ≤ 126) (g : ℕ) (h : g < 56) (r : Fin 512) (l : Fin 128) :
    loTile X (k0_pay2 E) g h (ix2 r l) = low X E r (col g h l) := by
  unfold loTile
  rw [scaled_apply, mult_apply _ _ (hE _)]
  have hb : bitcast (Mat 512 128) 8 (fun j => IntOp.andi (shli (words X g h) (broadcast S128x128 4#32) j) 4042322160#32)
      bitcasts_S128x128_w32_S512x128_w8 (ix2 r l) = _ :=
    masked_low (View.ld X (groupRect g h)) bitcasts_S512x128_w8_S128x128_w32 bitcasts_S128x128_w32_S512x128_w8 r l
  rw [hb]
  rw [weight_eq _ _ _ (low_code _)]
  have hx : View.ld X (groupRect g h) (ix2 r l) = X (ix2 r (col g h l)) := congrArg X (emb_group g h r l)
  rw [hx, low]
  congr 3
  apply Fin.ext; show g = (128 * g + l.val) / 128; omega

theorem hiTile_apply (hE : ∀ i, (E i).toNat ≤ 126) (g : ℕ) (h : g < 56) (r : Fin 512) (l : Fin 128) :
    hiTile X (k0_pay2 E) g h (ix2 r l) = high X E r (col g h l) := by
  unfold hiTile
  rw [scaled_apply, mult_apply _ _ (hE _)]
  have hb := masked_high (View.ld X (groupRect g h)) bitcasts_S512x128_w8_S128x128_w32 bitcasts_S128x128_w32_S512x128_w8 r l
  rw [words, hb]
  rw [weight_eq _ _ _ (high_code _)]
  have hx : View.ld X (groupRect g h) (ix2 r l) = X (ix2 r (col g h l)) := congrArg X (emb_group g h r l)
  rw [hx, high]
  congr 3
  apply Fin.ext; show g + 56 = (128 * g + l.val) / 128 + 56; omega

/-! ## The scratch arrays -/

theorem pieces_agree (T : (g : ℕ) → g < 56 → FVec Ideal S512x128 .bf16) (G : Fin 512 → Fin 7168 → EReal)
    (hT : ∀ g h r l, T g h (ix2 r l) = G r (col g h l)) : ∀ (n : ℕ) (hn : n ≤ 56), ∀ p ∈ pieces T n hn, ∀ x : p.1.shape.Idx,
      p.2 x = (fun i : S512x7168.Idx => G (i 0) (i 1)) (p.1.emb x)
  | 0, _, p, hp, _ => absurd hp List.not_mem_nil
  | n + 1, hn, p, hp, x => by
    rcases List.mem_cons.mp hp with rfl | hp
    · have key : ∀ (r : Fin 512) (l : Fin 128), stored (T n hn) (ix2 r l)
          = G ((groupRect n hn).emb (ix2 r l) 0) ((groupRect n hn).emb (ix2 r l) 1) := fun r l => by
        rw [emb_group n hn]
        refine Eq.trans ?_ (hT n hn r l)
        show shapeCast S512x128 (T n hn) shapeCasts_S512x128_S512x128 (ix2 r l) = _
        rw [shapeCast_self]
      obtain ⟨r, l, rfl⟩ : ∃ (r : Fin 512) (l : Fin 128), x = ix2 r l := ⟨x 0, x 1, eq_ix2 (n0 := 512) (n1 := 128) x⟩
      exact key r l
    · exact pieces_agree T G hT n _ p hp x

theorem pieces_cover (T : (g : ℕ) → g < 56 → FVec Ideal S512x128 .bf16) (y : S512x7168.Idx) : ∀ (n : ℕ) (hn : n ≤ 56), (y 1).val < 128 * n →
      ∃ p ∈ pieces T n hn, y ∈ p.1.set
  | 0, _, h => absurd h (by omega)
  | n + 1, hn, h => by
    by_cases hlt : (y 1).val < 128 * n
    · obtain ⟨p, hp, hy⟩ := pieces_cover T y n (Nat.le_of_succ_le hn) hlt
      exact ⟨p, List.mem_cons_of_mem _ hp, hy⟩
    · refine ⟨_, List.mem_cons_self, ?_⟩
      show y ∈ (groupRect n hn).set
      rw [Rect.mem_set_unit]
      intro a
      match a with
      | ⟨0, _⟩ => exact ⟨Nat.zero_le _, by have := (y 0).isLt; show (y 0).val < 0 + 512; exact (Nat.zero_add 512).symm ▸ this⟩
      | ⟨1, _⟩ => exact ⟨by show 128 * n ≤ (y 1).val; omega, by show (y 1).val < 128 * n + 128; omega⟩

theorem readCov_pieces {κ : Kind} {sp : Space} (v : View sig κ sp S512x7168 .fp8e4m3) (T : (g : ℕ) → g < 56 → FVec Ideal S512x128 .bf16)
    (G : Fin 512 → Fin 7168 → EReal) (hT : ∀ g h r l, T g h (ix2 r l) = G r (col g h l)) (j : Fin 512) (k : Fin 7168) :
    v.readCov (Val := Elt Ideal) (pieces T 56 (Nat.le_refl _)) (Rect.unit ![0, 0] S512x7168.size inb_S512x7168_S512x7168_0_0).toLoadRect (ix2 j k) = G j k := by
  rw [View.readCov_eq_canon']
  refine (congrFun (View.ld_unit_lit' (S := S512x7168) inb_S512x7168_S512x7168_0_0 _ (by decide)) (ix2 j k)).trans ?_
  exact View.canon_apply_of_pieces (fun i : S512x7168.Idx => G (i 0) (i 1)) _ (pieces_agree T G hT 56 _) (ix2 j k)
    (pieces_cover T _ 56 _ (by show k.val < _; omega))

/-! ## The running sums -/

theorem sums_apply (hE : ∀ i, (E i).toNat ≤ 126) (r : Fin 512) (l : Fin 128) : ∀ (n : ℕ) (hn : n ≤ 56),
    sums X (k0_pay2 E) n hn (ix2 r l)
      = ∑ g : Fin n, (low X E r (col g.val (by omega) l) + high X E r (col g.val (by omega) l))
  | 0, _ => by
    rw [Fin.sum_univ_zero]
    show shapeCast S512x128 (broadcast S512x128 (Ideal.ofBits .f32 0x00000000#32)) shapeCasts_S512x128_S512x128 (ix2 r l) = _
    rw [shapeCast_self]
    exact Ideal.ofBits_zero_f32
  | n + 1, hn => by
    rw [Fin.sum_univ_castSucc, ← add_assoc]
    show shapeCast S512x128 (fun i => shapeCast S512x128 (fun i => sums X (k0_pay2 E) n _ i + loTile X (k0_pay2 E) n _ i) shapeCasts_S512x128_S512x128 i + hiTile X (k0_pay2 E) n _ i) shapeCasts_S512x128_S512x128 (ix2 r l) = _
    rw [shapeCast_self, shapeCast_self, sums_apply hE r l n _, loTile_apply X E hE, hiTile_apply X E hE, add_assoc, add_assoc]
    rfl

/-- Lane by lane and group by group is column by column. -/
theorem sum_cols (f : Fin 7168 → EReal) : ∑ l : Fin 128, ∑ g : Fin 56, f (col g.val g.isLt l) = ∑ k, f k := by
  rw [Finset.sum_comm, ← Fintype.sum_prod_type', ← Equiv.sum_comp (finProdFinEquiv (m := 56) (n := 128)) f]
  refine Finset.sum_congr rfl fun p _ => congrArg f (Fin.ext ?_)
  show 128 * p.1.val + p.2.val = p.2.val + 128 * p.1.val
  omega

theorem rowSum (hE : ∀ i, (E i).toNat ≤ 126) (r : Fin 512) :
    ∑ l : Fin 128, sums X (k0_pay2 E) 56 (Nat.le_refl _) (ix2 r l) = ∑ k, low X E r k + ∑ k, high X E r k := by
  rw [← Finset.sum_add_distrib, ← sum_cols]
  exact Finset.sum_congr rfl fun l _ => sums_apply X E hE r l 56 _

/-! ## The closing formula -/

theorem prod_apply (w : FVec Ideal S512x7168 .fp8e4m3) (a : FVec Ideal S7168x256 .fp8e4m3) (j : Fin 512) (s : Fin 256) :
    matmul dot_S512x7168_S7168x256_S512x256_1_0_0_1_n_n none w a (constant S512x256 .f32 0x00000000#32) (ix2 j s)
      = ∑ k : Fin 7168, w (ix2 j k) * a (ix2 k s) := by
  refine (Ideal.matmul_plain_apply (M := 512) (K := 7168) (N := 256) none w a (constant S512x256 .f32 0x00000000#32) j s).trans ?_
  refine (congrArg (· + _) (Ideal.ofBits_zero_f32 : constant (F := Ideal) S512x256 .f32 0x00000000#32 (ix2 j s) = 0)).trans ?_
  exact zero_add _

theorem laneSum_apply (cs : FVec Ideal S512x128 .f32) (j : Fin 512) :
    multiReduction .add [1] S512 cs 0x00000000#32 reduces_S512x128_S512 (.inl rfl) rfl (ix1 j) = ∑ l : Fin 128, cs (ix2 j l) := by
  refine (Ideal.multiReduction_add_single cs _ reduces_S512x128_S512 (.inl rfl) rfl (ix1 j)).trans ?_
  refine Finset.sum_congr rfl fun l _ => congrArg cs ?_
  funext a; apply Fin.ext
  match a with
  | ⟨0, _⟩ => rfl
  | ⟨1, _⟩ => rfl

theorem closing (wl wh : FVec Ideal S512x7168 .fp8e4m3) (al ah : FVec Ideal S7168x256 .fp8e4m3) (cs : FVec Ideal S512x128 .f32)
    (z sc : FVec Ideal S1x256 .f32) (ws : FVec Ideal S1x512 .f32) (s : Fin 256) (j : Fin 512) :
    (k0_pay1 (F := Ideal) (k0_pay439 wl al wh ah cs z sc) (k0_pay440 ws) (ix2 s j) : EReal)
      = ((∑ k : Fin 7168, wl (ix2 j k) * al (ix2 k s) + ∑ k : Fin 7168, wh (ix2 j k) * ah (ix2 k s)
          - z (ix2 0 s) * ∑ l : Fin 128, cs (ix2 j l)) * sc (ix2 0 s)) * ws (ix2 0 j) := by
  rw [← prod_apply, ← prod_apply, ← laneSum_apply]
  unfold k0_pay1 k0_pay439 k0_pay440
  dsimp only
  generalize matmul dot_S512x7168_S7168x256_S512x256_1_0_0_1_n_n none wl al _ = P
  generalize matmul dot_S512x7168_S7168x256_S512x256_1_0_0_1_n_n none wh ah _ = Q
  pointwise
  rfl

theorem ld_lower (A : Vec Ideal S14336x256 .fp8e4m3) (k : Fin 7168) (s : Fin 256) :
    View.ld A (Rect.unit ![0, 0] S7168x256.size inb_S14336x256_S7168x256_0_0) (ix2 k s) = A (ix2 ⟨k.val, by omega⟩ s) := by
  refine congrArg A (funext fun a => Fin.ext ?_)
  match a with
  | ⟨0, _⟩ => show 0 + 1 * k.val = k.val; omega
  | ⟨1, _⟩ => show 0 + 1 * s.val = s.val; omega

theorem ld_upper (A : Vec Ideal S14336x256 .fp8e4m3) (k : Fin 7168) (s : Fin 256) :
    View.ld A (Rect.unit ![7168, 0] S7168x256.size inb_S14336x256_S7168x256_7168_0) (ix2 k s) = A (ix2 ⟨7168 + k.val, by omega⟩ s) := by
  refine congrArg A (funext fun a => Fin.ext ?_)
  match a with
  | ⟨0, _⟩ => show 7168 + 1 * k.val = 7168 + k.val; omega
  | ⟨1, _⟩ => show 0 + 1 * s.val = s.val; omega

theorem block_out {κ κ' : Kind} {sp sp' : Space} (v : View sig κ sp S512x7168 .fp8e4m3) (v' : View sig κ' sp' S512x7168 .fp8e4m3)
    (A : Vec Ideal S14336x256 .fp8e4m3) (SC Z : Vec Ideal S1x256 .f32) (W : Vec Ideal S1x512 .f32)
    (hE : ∀ i, (E i).toNat ≤ 126) (s : Fin 256) (j : Fin 512) :
    (k0_pay1 (F := Ideal) (k0_pay439
      (v.readCov (Val := Elt Ideal) (pieces (loTile X (k0_pay2 E)) 56 (Nat.le_refl _)) (Rect.unit ![0, 0] S512x7168.size inb_S512x7168_S512x7168_0_0).toLoadRect)
      (View.ld A (Rect.unit ![0, 0] S7168x256.size inb_S14336x256_S7168x256_0_0))
      (v'.readCov (Val := Elt Ideal) (pieces (hiTile X (k0_pay2 E)) 56 (Nat.le_refl _)) (Rect.unit ![0, 0] S512x7168.size inb_S512x7168_S512x7168_0_0).toLoadRect)
      (View.ld A (Rect.unit ![7168, 0] S7168x256.size inb_S14336x256_S7168x256_7168_0))
      (sums X (k0_pay2 E) 56 (Nat.le_refl _)) Z SC) (k0_pay440 W) (ix2 s j) : EReal)
      = out (N := 512) X E A SC Z (W (ix2 0 j)) s j := by
  refine (closing _ _ _ _ _ _ _ _ s j).trans ?_
  refine congrArg (· * W (ix2 0 j)) (congrArg (· * SC (ix2 0 s)) (congrArg₂ (· - ·) (congrArg₂ (· + ·) ?_ ?_)
    (congrArg (Z (ix2 0 s) * ·) (rowSum X E hE j))))
  · exact Finset.sum_congr rfl fun k _ => congrArg₂ (· * ·) (readCov_pieces v _ _ (loTile_apply X E hE) j k) (ld_lower A k s)
  · exact Finset.sum_congr rfl fun k _ => congrArg₂ (· * ·) (readCov_pieces v' _ _ (hiTile_apply X E hE) j k) (ld_upper A k s)

/-- WHAT A GRID POINT LEAVES in its block of the result: the specification at the block's rows. -/
theorem block_apply (m : (ℓ : Loc nD τ sig) → Buf (Elt Ideal) ℓ) (c : Dev nD) (t : Fin cfg0.N)
    (hE : ∀ i : S512x112.Idx, ((iblk m c 1 t : Vec Ideal S512x112 .i8) i).toNat ≤ 126) (s : Fin 256) (j : Fin 512) :
    (outsAt0 m c t (ix2 s j) : EReal) = out (N := 512) (iblk m c 0 t : Vec Ideal S512x7168 .i8) (iblk m c 1 t : Vec Ideal S512x112 .i8)
      (iblk m c 2 t : Vec Ideal S14336x256 .fp8e4m3) (iblk m c 3 t : Vec Ideal S1x256 .f32) (iblk m c 4 t : Vec Ideal S1x256 .f32)
      ((iblk m c 5 t : Vec Ideal S1x512 .f32) (ix2 0 j)) s j :=
  (congrFun (outs m c t) (ix2 s j)).trans
    (block_out (iblk m c 0 t) (iblk m c 1 t) _ _ (iblk m c 2 t) (iblk m c 3 t) (iblk m c 4 t) (iblk m c 5 t) hE s j)

end Cert.KernelIdeal.Block
-- ==== Proof.Final.lean ====
/-
  THE RESULT ARRAY. Grid point `t` writes columns 512 t to 512 t + 511 of the result from rows 512 t to 512 t + 511 of the packed
  weights and of the exponents; the seven blocks cover the array, so after the run it is the specification's `out` of the
  argument arrays, provided that no exponent exceeds 126.
-/
module

public import proofs.«01_k».proof.Proof.Tiles
public import Idealize.ShloMosaic.Lib.Pipeline.ValueKit

@[expose] public section
set_option maxRecDepth 16384
noncomputable section
namespace Cert.KernelIdeal.Block
open Idealize.ShloMosaic hiding ix1 ix2 eq_ix2
open Idealize.ShloMosaic.TcCoe Idealize.ShloMosaic.Tactic Idealize.ShloMosaic.ValueIdx
open Idealize.SL.Sem
open Cert.KernelIdeal Cert.KernelIdeal.Gen Cert.KernelIdeal.Value
open DownProj
open scoped BigOperators

variable (m : (ℓ : Loc nD τ sig) → Buf (Elt Ideal) ℓ) (ρ : Dev nD → PrngReg)

/-- Row `512 t + r` of the arrays that are cut along the output features. -/
abbrev row (t : Fin cfg0.N) (r : Fin 512) : Fin 3584 := ⟨512 * t.val + r.val, by have h : t.val < 7 := t.isLt; omega⟩

/-- Every window's block index at point `t` (decided over the seven points). -/
theorem idx_moving : ∀ t : Fin cfg0.N, win0_0.index t = ![t.val, 0] ∧ win0_1.index t = ![t.val, 0]
    ∧ win0_5.index t = ![0, t.val] ∧ win0_6.index t = ![0, t.val] :=
  (by decide +kernel : ∀ t : Fin grid0.N, _)

theorem idx_fixed : ∀ t : Fin cfg0.N, win0_2.index t = ![0, 0] ∧ win0_3.index t = ![0, 0] ∧ win0_4.index t = ![0, 0] :=
  (by decide +kernel : ∀ t : Fin grid0.N, _)

theorem emb0 (t : Fin cfg0.N) (r : Fin 512) (k : Fin 7168) :
    ((cfg0.win 0).blk t).view.emb (ix2 r k : S512x7168.Idx) = (ix2 (row t r) k : S3584x7168.Idx) := by
  have h := (idx_moving t).1
  funext a; apply Fin.ext
  match a with
  | ⟨0, _⟩ => show win0_0.index t (0 : Fin 2) * 512 + 1 * r.val = 512 * t.val + r.val; rw [h]; show t.val * 512 + _ = _; omega
  | ⟨1, _⟩ => show win0_0.index t (1 : Fin 2) * 7168 + 1 * k.val = k.val; rw [h]; show 0 * 7168 + _ = _; omega

theorem emb1 (t : Fin cfg0.N) (r : Fin 512) (k : Fin 112) :
    ((cfg0.win 1).blk t).view.emb (ix2 r k : S512x112.Idx) = (ix2 (row t r) k : S3584x112.Idx) := by
  have h := (idx_moving t).2.1
  funext a; apply Fin.ext
  match a with
  | ⟨0, _⟩ => show win0_1.index t (0 : Fin 2) * 512 + 1 * r.val = 512 * t.val + r.val; rw [h]; show t.val * 512 + _ = _; omega
  | ⟨1, _⟩ => show win0_1.index t (1 : Fin 2) * 112 + 1 * k.val = k.val; rw [h]; show 0 * 112 + _ = _; omega

theorem emb2 (t : Fin cfg0.N) (z : S14336x256.Idx) : ((cfg0.win 2).blk t).view.emb z = z := by
  have h := (idx_fixed t).1
  funext a; apply Fin.ext
  match a with
  | ⟨0, _⟩ => show win0_2.index t (0 : Fin 2) * 14336 + 1 * (z 0).val = (z 0).val; rw [h]; show 0 * 14336 + _ = _; omega
  | ⟨1, _⟩ => show win0_2.index t (1 : Fin 2) * 256 + 1 * (z 1).val = (z 1).val; rw [h]; show 0 * 256 + _ = _; omega

theorem emb3 (t : Fin cfg0.N) (z : S1x256.Idx) : ((cfg0.win 3).blk t).view.emb z = z := by
  have h := (idx_fixed t).2.1
  funext a; apply Fin.ext
  match a with
  | ⟨0, _⟩ => show win0_3.index t (0 : Fin 2) * 1 + 1 * (z 0).val = (z 0).val; rw [h]; show 0 * 1 + _ = _; omega
  | ⟨1, _⟩ => show win0_3.index t (1 : Fin 2) * 256 + 1 * (z 1).val = (z 1).val; rw [h]; show 0 * 256 + _ = _; omega

theorem emb4 (t : Fin cfg0.N) (z : S1x256.Idx) : ((cfg0.win 4).blk t).view.emb z = z := by
  have h := (idx_fixed t).2.2
  funext a; apply Fin.ext
  match a with
  | ⟨0, _⟩ => show win0_4.index t (0 : Fin 2) * 1 + 1 * (z 0).val = (z 0).val; rw [h]; show 0 * 1 + _ = _; omega
  | ⟨1, _⟩ => show win0_4.index t (1 : Fin 2) * 256 + 1 * (z 1).val = (z 1).val; rw [h]; show 0 * 256 + _ = _; omega

theorem emb5 (t : Fin cfg0.N) (j : Fin 512) :
    ((cfg0.win 5).blk t).view.emb (ix2 0 j : S1x512.Idx) = (ix2 0 (row t j) : S1x3584.Idx) := by
  have h := (idx_moving t).2.2.1
  funext a; apply Fin.ext
  match a with
  | ⟨0, _⟩ => show win0_5.index t (0 : Fin 2) * 1 + 1 * 0 = 0; rw [h]; rfl
  | ⟨1, _⟩ => show win0_5.index t (1 : Fin 2) * 512 + 1 * j.val = 512 * t.val + j.val; rw [h]; show t.val * 512 + _ = _; omega

theorem emb6 (t : Fin cfg0.N) (s : Fin 256) (j : Fin 512) :
    ((cfg0.win 6).blk t).view.emb (ix2 s j : S256x512.Idx) = (ix2 s (row t j) : S256x3584.Idx) := by
  have h := (idx_moving t).2.2.2
  funext a; apply Fin.ext
  match a with
  | ⟨0, _⟩ => show win0_6.index t (0 : Fin 2) * 256 + 1 * s.val = s.val; rw [h]; show 0 * 256 + _ = _; omega
  | ⟨1, _⟩ => show win0_6.index t (1 : Fin 2) * 512 + 1 * j.val = 512 * t.val + j.val; rw [h]; show t.val * 512 + _ = _; omega

theorem iblk0_apply (c : Dev nD) (t : Fin cfg0.N) (r : Fin 512) (k : Fin 7168) :
    iblk m c 0 t (ix2 r k) = m ((c : Thread nD τ).loc main_arg0) (ix2 (row t r) k) := by
  show V m c main_arg0 (((cfg0.win 0).blk t).view.emb (ix2 r k)) = _
  rw [emb0, V_main_arg0]

theorem iblk1_apply (c : Dev nD) (t : Fin cfg0.N) (r : Fin 512) (k : Fin 112) :
    iblk m c 1 t (ix2 r k) = m ((c : Thread nD τ).loc main_arg1) (ix2 (row t r) k) := by
  show V m c main_arg1 (((cfg0.win 1).blk t).view.emb (ix2 r k)) = _
  rw [emb1, V_main_arg1]

theorem iblk2_apply (c : Dev nD) (t : Fin cfg0.N) (z : S14336x256.Idx) : iblk m c 2 t z = m ((c : Thread nD τ).loc main_arg2) z := by
  show V m c main_arg2 (((cfg0.win 2).blk t).view.emb z) = _
  rw [emb2, V_main_arg2]

theorem iblk3_apply (c : Dev nD) (t : Fin cfg0.N) (z : S1x256.Idx) : iblk m c 3 t z = m ((c : Thread nD τ).loc main_arg3) z := by
  show V m c main_arg3 (((cfg0.win 3).blk t).view.emb z) = _
  rw [emb3, V_main_arg3]

theorem iblk4_apply (c : Dev nD) (t : Fin cfg0.N) (z : S1x256.Idx) : iblk m c 4 t z = m ((c : Thread nD τ).loc main_arg4) z := by
  show V m c main_arg4 (((cfg0.win 4).blk t).view.emb z) = _
  rw [emb4, V_main_arg4]

/-- The weight scales as a row, which the program makes before the call. -/
theorem V_row (c : Dev nD) (n : Fin 3584) : V m c main_v0 (ix2 0 n) = m ((c : Thread nD τ).loc main_arg5) (ix1 n) := by
  have h : V m c main_v0 = shapeCast S1x3584 (m ((c : Thread nD τ).loc main_arg5)) shapeCasts_S3584_S1x3584 := by
    unfold V hostOps0
    after_results
    rfl
  rw [h]
  exact shapeCast_a_1a_apply _ _ _ _

theorem iblk5_apply (c : Dev nD) (t : Fin cfg0.N) (j : Fin 512) :
    iblk m c 5 t (ix2 0 j) = m ((c : Thread nD τ).loc main_arg5) (ix1 (row t j)) := by
  show V m c main_v0 (((cfg0.win 5).blk t).view.emb (ix2 0 j)) = _
  rw [emb5, V_row]

/-- The specification's rows: `out` of arrays whose row `n` is row `n'` of others is their `out` at `n'`. -/
theorem out_congr {N N' : ℕ} (X : (Mat N 7168).Idx → BitVec 8) (E : (Mat N 112).Idx → BitVec 8) (A : (Mat 14336 256).Idx → EReal)
    (SC Z : (Mat 1 256).Idx → EReal) (ws : EReal) (X' : (Mat N' 7168).Idx → BitVec 8) (E' : (Mat N' 112).Idx → BitVec 8)
    (A' : (Mat 14336 256).Idx → EReal) (SC' Z' : (Mat 1 256).Idx → EReal) (ws' : EReal) (s : Fin 256) (n : Fin N) (n' : Fin N')
    (hX : ∀ k, X (ix2 n k) = X' (ix2 n' k)) (hE : ∀ k, E (ix2 n k) = E' (ix2 n' k)) (hA : A = A') (hS : SC = SC') (hZ : Z = Z')
    (hw : ws = ws') : out X E A SC Z ws s n = out X' E' A' SC' Z' ws' s n' := by
  subst hA hS hZ hw
  have hl : ∀ k, low X E n k = low X' E' n' k := fun k => by unfold low; rw [hX, hE]
  have hh : ∀ k, high X E n k = high X' E' n' k := fun k => by unfold high; rw [hX, hE]
  unfold out
  simp only [hl, hh]

/-- The result array as one function of the arguments. -/
def G (a0 : Vec Ideal S3584x7168 .i8) (a1 : Vec Ideal S3584x112 .i8) (a2 : Vec Ideal S14336x256 .fp8e4m3) (a3 a4 : Vec Ideal S1x256 .f32)
    (a5 : Vec Ideal S3584 .f32) : Vec Ideal S256x3584 .bf16 :=
  fun i => out (N := 3584) a0 a1 a2 a3 a4 (a5 (ix1 (i 1))) (i 0) (i 1)

/-- The result array of device `c`. -/
abbrev GA (c : Dev nD) : Vec Ideal S256x3584 .bf16 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Every exponent of every device is at most 126. -/
def ExpOk : Prop := ∀ (c : Dev nD) (i : S3584x112.Idx), ((m ((c : Thread nD τ).loc main_arg1) : Vec Ideal S3584x112 .i8) i).toNat ≤ 126

theorem flushed_eq (hE : ExpOk m) (c : Dev nD) (t : Fin cfg0.N) :
    (dats m 0 c).flushed 6 t = ((cfg0.win 6).blk t).view.read (Elt Ideal) (GA m c) := by
  rw [flushed6]
  funext z
  show outsAt0 m c t z = GA m c (((cfg0.win 6).blk t).view.emb z)
  obtain ⟨s, j, rfl⟩ : ∃ (s : Fin 256) (j : Fin 512), z = (ix2 s j : S256x512.Idx) := ⟨z 0, z 1, eq_ix2 z⟩
  rw [emb6]
  refine (block_apply m c t (fun i => ?_) s j).trans ?_
  · obtain ⟨r, k, rfl⟩ : ∃ (r : Fin 512) (k : Fin 112), i = (ix2 r k : S512x112.Idx) := ⟨i 0, i 1, eq_ix2 i⟩
    rw [iblk1_apply]
    exact hE c _
  · exact out_congr _ _ _ _ _ _ _ _ _ _ _ _ s j (row t j) (iblk0_apply m c t j) (iblk1_apply m c t j)
      (funext (iblk2_apply m c t)) (funext (iblk3_apply m c t)) (funext (iblk4_apply m c t)) (iblk5_apply m c t j)

theorem covered (i : S256x3584.Idx) : ∃ t : Fin cfg0.N, (cfg0.win 6).flush t = true ∧ i ∈ ((cfg0.win 6).blk t).view.set := by
  obtain ⟨s, n, rfl⟩ : ∃ (s : Fin 256) (n : Fin 3584), i = (ix2 s n : S256x3584.Idx) := ⟨i 0, i 1, eq_ix2 i⟩
  have hN : cfg0.N = 7 := rfl
  refine ⟨⟨n.val / 512, by omega⟩, flush0_6 _, ?_⟩
  have h := ((cfg0.win 6).blk (⟨n.val / 512, by omega⟩ : Fin cfg0.N)).view.emb_mem_set
    (ix2 s (⟨n.val % 512, by omega⟩ : Fin 512) : S256x512.Idx)
  rw [emb6] at h
  have e : row (⟨n.val / 512, by omega⟩ : Fin cfg0.N) ⟨n.val % 512, by omega⟩ = n := Fin.ext (by show 512 * (n.val / 512) + n.val % 512 = n.val; omega)
  rwa [e] at h

/-- The result array after the run. -/
theorem final (hE : ExpOk m) (c : Dev nD) : (dats m 0 c).arrAt 6 cfg0.N = GA m c :=
  (dats m 0 c).arrAt_eq_of_cover 6 (GA m c) (fun t _ => flushed_eq m hE c t) covered

end Cert.KernelIdeal.Block

end
-- ==== Proof.RefWeights.lean ====
/-
  THE REFERENCE'S WEIGHTS. Before its kernel the reference unpacks the two codes of each byte, and multiplies each by 2^(-e) of its
  group, 2^(-e) being a power. Read at an index the two arrays are the specification's `low` and `high`.
-/
module

public import proofs.«01_k».proof.Proof.Gen.ReferenceIdeal.Value
public import proofs.«01_k».proof.Proof.Spec
public import Idealize.ShloMosaic.Lib.Pointwise
public import Idealize.ShloMosaic.Lib.ValueLayout
public import Idealize.ShloMosaic.Lib.StableHlo.ReadAt

@[expose] public section
set_option maxRecDepth 16384
noncomputable section
namespace Cert.ReferenceIdeal.Weights
open Idealize.ShloMosaic hiding ix1 ix2 ix3 eq_ix2 eq_ix3
open Idealize.ShloMosaic.TcCoe Idealize.ShloMosaic.Tactic Idealize.ShloMosaic.ValueIdx
open Cert.ReferenceIdeal Cert.ReferenceIdeal.Gen Cert.ReferenceIdeal.Value
open DownProj
open scoped BigOperators

/-- A four-bit field as a signed word: less 16 from 8 on. -/
def signedWord (w : BitVec 32) : BitVec 32 := Scalar.select (IntOp.cmpi .sge w 8#32) (IntOp.subi w 16#32) w

theorem signedWord_low (b : BitVec 8) : (signedWord (IntOp.andi (b.setWidth 32) 15#32)).toInt = signed (b.toNat % 16) := by
  have h : ∀ k : Fin 256, (signedWord (IntOp.andi ((BitVec.ofFin (w := 8) k).setWidth 32) 15#32)).toInt = signed (k.val % 16) := by decide +kernel
  cases b with | ofFin k => exact h k

theorem signedWord_high (b : BitVec 8) :
    (signedWord (IntOp.andi (IntOp.shrsi .host (b.setWidth 32) 4#32) 15#32)).toInt = signed (b.toNat / 16) := by
  have h : ∀ k : Fin 256, (signedWord (IntOp.andi (IntOp.shrsi .host ((BitVec.ofFin (w := 8) k).setWidth 32) 4#32) 15#32)).toInt = signed (k.val / 16) := by
    decide +kernel
  cases b with | ofFin k => exact h k

theorem neg_word (b : BitVec 8) : (-(b.setWidth 32)).toInt = -(b.toNat : ℤ) := by
  have h : ∀ k : Fin 256, (-((BitVec.ofFin (w := 8) k).setWidth 32)).toInt = -(k.val : ℤ) := by decide +kernel
  cases b with | ofFin k => exact h k

theorem ofBits_two : Ideal.ofBits .f32 0x40000000#32 = ((2 : ℝ) : EReal) := by
  simp [Ideal.ofBits, Ideal.ieee, -EReal.coe_mul]; norm_num

/-- A code's word times the power of two: the weight. -/
theorem weight_of_words (n : ℕ) (b : BitVec 8) (w : BitVec 32) (hw : w.toInt = signed n) :
    ((w.toInt : ℝ) : EReal) * Ideal.pow (Ideal.ofBits .f32 0x40000000#32) (((-(b.setWidth 32)).toInt : ℝ) : EReal) = weight n b := by
  rw [ofBits_two, Ideal.pow_coe_coe, neg_word, hw, weight, ← EReal.coe_mul]
  refine congrArg (fun r : ℝ => (r : EReal)) (congrArg (((signed n : ℤ) : ℝ) * ·) ?_)
  exact Real.rpow_intCast 2 _

/-- The fields' words as signed codes. -/
def codes (w : IVec S3584x7168 32) : IVec S3584x7168 32 :=
  select (cmpi .sge w (broadcastInDim S3584x7168 ![] bcast_S_S3584x7168 (constantI S_ 32 8#32)))
    (subi w (broadcastInDim S3584x7168 ![] bcast_S_S3584x7168 (constantI S_ 32 16#32))) w

theorem codes_apply (w : IVec S3584x7168 32) (i : S3584x7168.Idx) : codes w i = signedWord (w i) := rfl

/-- The powers of two of 56 groups. -/
def powers (e : IVec S3584x56 32) : FVec Ideal S3584x56 .bf16 :=
  truncf .bf16 (Host.powf (broadcastInDim S3584x56 ![] bcast_S_S3584x56 (constant (F := Ideal) S_ .f32 0x40000000#32)) (sitofp .f32 (negi e)))
    bitsLt_bf16_f32

/-- Codes times the powers of their groups. -/
def scaledCodes (w : IVec S3584x7168 32) (p : FVec Ideal S3584x56 .bf16) : FVec Ideal S3584x7168 .bf16 :=
  shapeCast S3584x7168
    (mulf (shapeCast S3584x56x128 (sitofp (F := Ideal) .bf16 w) shapeCasts_S3584x7168_S3584x56x128)
      (broadcastInDim S3584x56x128 ![0, 1, 2] bcast_S3584x56x1_S3584x56x128_0_1_2
        (broadcastInDim S3584x56x1 ![0, 1] bcast_S3584x56_S3584x56x1_0_1 p)))
    shapeCasts_S3584x56x128_S3584x7168

theorem scaledCodes_apply (w : IVec S3584x7168 32) (p : FVec Ideal S3584x56 .bf16) (n : Fin 3584) (k : Fin 7168) :
    (scaledCodes w p (ix2 n k) : EReal) = (((w (ix2 n k)).toInt : ℝ) : EReal) * (p (ix2 n ⟨k.val / 128, by omega⟩) : EReal) := by
  unfold scaledCodes
  rw [shapeCast_apply _ _ (ix2 n k) (ix3 n (⟨k.val / 128, by omega⟩ : Fin 56) (⟨k.val % 128, by omega⟩ : Fin 128) : S3584x56x128.Idx)
    (by rw [Shape.rowMajor_val_two, Shape.rowMajor_val_three]; show (n.val * 56 + k.val / 128) * 128 + k.val % 128 = n.val * 7168 + k.val; omega)]
  refine congrArg₂ (· * ·) ?_ ?_
  · rw [shapeCast_apply _ _ _ (ix2 n k : S3584x7168.Idx)
      (by rw [Shape.rowMajor_val_two, Shape.rowMajor_val_three]; show n.val * 7168 + k.val = (n.val * 56 + k.val / 128) * 128 + k.val % 128; omega)]
    rfl
  · refine (broadcastInDim_apply _ _ _ _ (ix3 n (⟨k.val / 128, by omega⟩ : Fin 56) (0 : Fin 1) : S3584x56x1.Idx) ?_).trans
      (broadcastInDim_apply _ _ _ _ (ix2 n (⟨k.val / 128, by omega⟩ : Fin 56) : S3584x56.Idx) ?_)
    · intro a; match a with | ⟨0, _⟩ => rfl | ⟨1, _⟩ => rfl | ⟨2, _⟩ => rfl
    · intro a; match a with | ⟨0, _⟩ => rfl | ⟨1, _⟩ => rfl

theorem powers_apply (e : IVec S3584x56 32) (i : S3584x56.Idx) :
    (powers e i : EReal) = Ideal.pow (Ideal.ofBits .f32 0x40000000#32) (((-(e i)).toInt : ℝ) : EReal) := rfl

/-- The low weights, from the argument arrays. -/
def lowArray (a0 : IVec S3584x7168 8) (a1 : IVec S3584x112 8) : FVec Ideal S3584x7168 .bf16 :=
  scaledCodes (codes (andi (extui 32 a0 natLt_8_32) (broadcastInDim S3584x7168 ![] bcast_S_S3584x7168 (constantI S_ 32 15#32))))
    (powers (extractStridedSlice S3584x56 ![0, 0] (extui 32 a1 natLt_8_32) slices_S3584x112_S3584x56_0_0))

/-- The high weights, from the argument arrays. -/
def highArray (a0 : IVec S3584x7168 8) (a1 : IVec S3584x112 8) : FVec Ideal S3584x7168 .bf16 :=
  scaledCodes (codes (andi (Host.shrsi (extui 32 a0 natLt_8_32) (broadcastInDim S3584x7168 ![] bcast_S_S3584x7168 (constantI S_ 32 4#32)))
      (broadcastInDim S3584x7168 ![] bcast_S_S3584x7168 (constantI S_ 32 15#32))))
    (powers (extractStridedSlice S3584x56 ![0, 56] (extui 32 a1 natLt_8_32) slices_S3584x112_S3584x56_0_56))

theorem lowArray_apply (a0 : IVec S3584x7168 8) (a1 : IVec S3584x112 8) (n : Fin 3584) (k : Fin 7168) :
    (lowArray a0 a1 (ix2 n k) : EReal) = low a0 a1 n k := by
  unfold lowArray
  rw [scaledCodes_apply, powers_apply, codes_apply]
  have he : extractStridedSlice S3584x56 ![0, 0] (extui 32 a1 natLt_8_32) slices_S3584x112_S3584x56_0_0 (ix2 n (⟨k.val / 128, by omega⟩ : Fin 56))
      = (a1 (ix2 n ⟨k.val / 128, by omega⟩)).setWidth 32 :=
    congrArg (fun i => (a1 i).setWidth 32) (funext fun a => Fin.ext (by
      match a with
      | ⟨0, _⟩ => show 0 + n.val = n.val; omega
      | ⟨1, _⟩ => show 0 + k.val / 128 = k.val / 128; omega))
  rw [he]
  exact weight_of_words _ _ _ (signedWord_low (a0 (ix2 n k)))

theorem highArray_apply (a0 : IVec S3584x7168 8) (a1 : IVec S3584x112 8) (n : Fin 3584) (k : Fin 7168) :
    (highArray a0 a1 (ix2 n k) : EReal) = high a0 a1 n k := by
  unfold highArray
  rw [scaledCodes_apply, powers_apply, codes_apply]
  have he : extractStridedSlice S3584x56 ![0, 56] (extui 32 a1 natLt_8_32) slices_S3584x112_S3584x56_0_56 (ix2 n (⟨k.val / 128, by omega⟩ : Fin 56))
      = (a1 (ix2 n ⟨k.val / 128 + 56, by omega⟩)).setWidth 32 :=
    congrArg (fun i => (a1 i).setWidth 32) (funext fun a => Fin.ext (by
      match a with
      | ⟨0, _⟩ => show 0 + n.val = n.val; omega
      | ⟨1, _⟩ => show 56 + k.val / 128 = k.val / 128 + 56; omega))
  rw [he]
  exact weight_of_words _ _ _ (signedWord_high (a0 (ix2 n k)))

variable (m : (ℓ : Loc nD τ sig) → Buf (Elt Ideal) ℓ)

theorem V_low (c : Dev nD) : V m c main_v20 = lowArray (m ((c : Thread nD τ).loc main_arg0)) (m ((c : Thread nD τ).loc main_arg1)) := by
  unfold V
  after_reads_simp
  rfl

theorem V_high (c : Dev nD) : V m c main_v41 = highArray (m ((c : Thread nD τ).loc main_arg0)) (m ((c : Thread nD τ).loc main_arg1)) := by
  unfold V
  after_reads_simp
  rfl

/-- The weight scales as a row. -/
theorem V_row (c : Dev nD) (n : Fin 3584) : V m c main_v42 (ix2 0 n) = m ((c : Thread nD τ).loc main_arg5) (ix1 n) := by
  have h : V m c main_v42 = shapeCast S1x3584 (m ((c : Thread nD τ).loc main_arg5)) shapeCasts_S3584_S1x3584 := by
    unfold V
    after_reads_simp
    rfl
  rw [h]
  exact shapeCast_a_1a_apply _ _ _ _

end Cert.ReferenceIdeal.Weights

end
-- ==== Proof.RefOut.lean ====
/-
  WHAT THE REFERENCE COMPUTES. Its one kernel call takes the two weight arrays and forms the specification's `out` of the whole
  argument arrays; the two products, stated with the activations on the left, are the specification's by commuting each term.
-/
module

public import proofs.«01_k».proof.Proof.RefWeights
public import Idealize.ShloMosaic.Lib.MatmulPlain
public import Idealize.ShloMosaic.Lib.Pipeline.ValueKit

@[expose] public section
set_option maxRecDepth 16384
noncomputable section
namespace Cert.ReferenceIdeal.Weights
open Idealize.ShloMosaic hiding ix1 ix2 ix3 eq_ix2 eq_ix3
open Idealize.ShloMosaic.TcCoe Idealize.ShloMosaic.Tactic Idealize.ShloMosaic.ValueIdx
open Cert.ReferenceIdeal Cert.ReferenceIdeal.Gen Cert.ReferenceIdeal.Value
open DownProj
open scoped BigOperators

abbrev dims := dot_S7168x256_S3584x7168_S256x3584_0_1_1_0_n_n

def contrCoord : dims.contr.Idx ≃ Fin 7168 := contrEquiv1 _ 7168 rfl rfl

theorem prod_apply (a : FVec Ideal S7168x256 .fp8e4m3) (w : FVec Ideal S3584x7168 .fp8e4m3) (s : Fin 256) (n : Fin 3584) :
    matmul dims none a w (constant S256x3584 .f32 0x00000000#32) (ix2 s n) = ∑ k : Fin 7168, w (ix2 n k) * a (ix2 k s) := by
  refine (Ideal.matmul_apply _ _ _ _ _ _).trans ?_
  rw [← Equiv.sum_comp contrCoord.symm]
  refine (congrArg (· + _) (Ideal.ofBits_zero_f32 : constant (F := Ideal) S256x3584 .f32 0x00000000#32 (ix2 s n) = 0)).trans ?_
  refine (zero_add _).trans (Finset.sum_congr rfl fun k _ => ?_)
  have hk := contrEquiv1_symm_val dims 7168 rfl rfl k
  have el : dims.lhsIdx (ix2 s n) (contrCoord.symm k) = ix2 k s := by
    funext b; apply Fin.ext
    match b with
    | ⟨0, _⟩ => exact hk
    | ⟨1, _⟩ => rfl
  have er : dims.rhsIdx (ix2 s n) (contrCoord.symm k) = ix2 n k := by
    funext b; apply Fin.ext
    match b with
    | ⟨0, _⟩ => rfl
    | ⟨1, _⟩ => exact hk
  rw [el, er]
  exact mul_comm _ _

theorem rowSum_apply (w : FVec Ideal S3584x7168 .f32) (n : Fin 3584) :
    multiReduction .add [1] S3584 w 0x00000000#32 reduces_S3584x7168_S3584 (.inl rfl) rfl (ix1 n) = ∑ k : Fin 7168, w (ix2 n k) := by
  refine (Ideal.multiReduction_add_single w _ reduces_S3584x7168_S3584 (.inl rfl) rfl (ix1 n)).trans ?_
  refine Finset.sum_congr rfl fun l _ => congrArg w ?_
  funext a; apply Fin.ext
  match a with
  | ⟨0, _⟩ => rfl
  | ⟨1, _⟩ => rfl

theorem body_apply (wl wh : FVec Ideal S3584x7168 .bf16) (al ah : FVec Ideal S7168x256 .fp8e4m3) (z sc : FVec Ideal S1x256 .f32)
    (ws : FVec Ideal S1x3584 .f32) (s : Fin 256) (n : Fin 3584) :
    (k0_pay1 (F := Ideal) wl wh al ah z sc ws (ix2 s n) : EReal)
      = ((∑ k : Fin 7168, (wl (ix2 n k) : EReal) * al (ix2 k s) + ∑ k : Fin 7168, (wh (ix2 n k) : EReal) * ah (ix2 k s)
          - z (ix2 0 s) * (∑ k : Fin 7168, (wl (ix2 n k) : EReal) + ∑ k : Fin 7168, (wh (ix2 n k) : EReal))) * sc (ix2 0 s)) * ws (ix2 0 n) := by
  have h1 := prod_apply al (truncf .fp8e4m3 wl bitsLt_fp8e4m3_bf16) s n
  have h2 := prod_apply ah (truncf .fp8e4m3 wh bitsLt_fp8e4m3_bf16) s n
  have h3 := rowSum_apply (extf .f32 (truncf .fp8e4m3 wl bitsLt_fp8e4m3_bf16) bitsLt_fp8e4m3_f32) n
  have h4 := rowSum_apply (extf .f32 (truncf .fp8e4m3 wh bitsLt_fp8e4m3_bf16) bitsLt_fp8e4m3_f32) n
  refine Eq.trans ?_ (congrArg (· * ws (ix2 0 n)) (congrArg (· * sc (ix2 0 s)) (congrArg₂ (· - ·) (congrArg₂ (· + ·) h1 h2)
    (congrArg (z (ix2 0 s) * ·) (congrArg₂ (· + ·) h3 h4)))))
  clear h1 h2 h3 h4
  unfold k0_pay1
  dsimp only
  rw [shapeCast_self, shapeCast_self]
  generalize matmul dims none al _ _ = P
  generalize matmul dims none ah _ _ = Q
  generalize multiReduction .add [1] S3584 (extf .f32 (truncf .fp8e4m3 wl bitsLt_fp8e4m3_bf16) bitsLt_fp8e4m3_f32) _ _ _ _ = R
  generalize multiReduction .add [1] S3584 (extf .f32 (truncf .fp8e4m3 wh bitsLt_fp8e4m3_bf16) bitsLt_fp8e4m3_f32) _ _ _ _ = R'
  pointwise
  rfl

theorem hz : (![0, 0] : Fin 2 → Nat) = fun _ => 0 := funext fun a => by fin_cases a <;> rfl

theorem ld_lower (A : Vec Ideal S14336x256 .fp8e4m3) (k : Fin 7168) (s : Fin 256) :
    View.ld A r0_1 (ix2 k s) = A (ix2 ⟨k.val, by omega⟩ s) := by
  refine congrArg A (funext fun a => Fin.ext ?_)
  match a with
  | ⟨0, _⟩ => show 0 + 1 * k.val = k.val; omega
  | ⟨1, _⟩ => show 0 + 1 * s.val = s.val; omega

theorem ld_upper (A : Vec Ideal S14336x256 .fp8e4m3) (k : Fin 7168) (s : Fin 256) :
    View.ld A r0_2 (ix2 k s) = A (ix2 ⟨7168 + k.val, by omega⟩ s) := by
  refine congrArg A (funext fun a => Fin.ext ?_)
  match a with
  | ⟨0, _⟩ => show 7168 + 1 * k.val = 7168 + k.val; omega
  | ⟨1, _⟩ => show 0 + 1 * s.val = s.val; omega

/-- What the body leaves, when the first two arrays are the specification's weights. -/
theorem out_apply (x0 x1 : Vec Ideal S3584x7168 .bf16) (x2 : Vec Ideal S14336x256 .fp8e4m3) (x3 x4 : Vec Ideal S1x256 .f32)
    (x5 : Vec Ideal S1x3584 .f32) (a0 : IVec S3584x7168 8) (a1 : IVec S3584x112 8) (hl : ∀ n k, (x0 (ix2 n k) : EReal) = low a0 a1 n k)
    (hh : ∀ n k, (x1 (ix2 n k) : EReal) = high a0 a1 n k) (s : Fin 256) (n : Fin 3584) :
    (out0_6 x0 x1 x2 x3 x4 x5 (ix2 s n) : EReal) = out (N := 3584) a0 a1 x2 x3 x4 (x5 (ix2 0 n)) s n := by
  unfold out0_6
  rw [View.canon_unit_zero hz, View.ld_unit_zero hz, View.ld_unit_zero hz, View.ld_unit_zero hz, View.ld_unit_zero hz, View.ld_unit_zero hz]
  refine (body_apply _ _ _ _ _ _ _ s n).trans ?_
  refine congrArg (· * x5 (ix2 0 n)) (congrArg (· * x3 (ix2 0 s)) (congrArg₂ (· - ·) (congrArg₂ (· + ·) ?_ ?_)
    (congrArg (x4 (ix2 0 s) * ·) (congrArg₂ (· + ·) ?_ ?_))))
  · exact Finset.sum_congr rfl fun k _ => congrArg₂ (· * ·) (hl n k) (ld_lower x2 k s)
  · exact Finset.sum_congr rfl fun k _ => congrArg₂ (· * ·) (hh n k) (ld_upper x2 k s)
  · exact Finset.sum_congr rfl fun k _ => hl n k
  · exact Finset.sum_congr rfl fun k _ => hh n k

variable (m : (ℓ : Loc nD τ sig) → Buf (Elt Ideal) ℓ) (ρ : Dev nD → PrngReg)

theorem iblk0_eq (c : Dev nD) (t : Fin cfg0.N) : iblk m c 0 t = V m c main_v20 := by
  funext z
  refine congrArg (V m c main_v20) (funext fun a => Fin.ext ?_)
  match a with
  | ⟨0, _⟩ => show 0 * 3584 + 1 * (z 0).val = (z 0).val; omega
  | ⟨1, _⟩ => show 0 * 7168 + 1 * (z 1).val = (z 1).val; omega

theorem iblk1_eq (c : Dev nD) (t : Fin cfg0.N) : iblk m c 1 t = V m c main_v41 := by
  funext z
  refine congrArg (V m c main_v41) (funext fun a => Fin.ext ?_)
  match a with
  | ⟨0, _⟩ => show 0 * 3584 + 1 * (z 0).val = (z 0).val; omega
  | ⟨1, _⟩ => show 0 * 7168 + 1 * (z 1).val = (z 1).val; omega

theorem iblk2_eq (c : Dev nD) (t : Fin cfg0.N) : iblk m c 2 t = m ((c : Thread nD τ).loc main_arg2) := by
  refine Eq.trans ?_ (V_main_arg2 m c)
  funext z
  refine congrArg (V m c main_arg2) (funext fun a => Fin.ext ?_)
  match a with
  | ⟨0, _⟩ => show 0 * 14336 + 1 * (z 0).val = (z 0).val; omega
  | ⟨1, _⟩ => show 0 * 256 + 1 * (z 1).val = (z 1).val; omega

theorem iblk3_eq (c : Dev nD) (t : Fin cfg0.N) : iblk m c 3 t = m ((c : Thread nD τ).loc main_arg3) := by
  refine Eq.trans ?_ (V_main_arg3 m c)
  funext z
  refine congrArg (V m c main_arg3) (funext fun a => Fin.ext ?_)
  match a with
  | ⟨0, _⟩ => show 0 * 1 + 1 * (z 0).val = (z 0).val; omega
  | ⟨1, _⟩ => show 0 * 256 + 1 * (z 1).val = (z 1).val; omega

theorem iblk4_eq (c : Dev nD) (t : Fin cfg0.N) : iblk m c 4 t = m ((c : Thread nD τ).loc main_arg4) := by
  refine Eq.trans ?_ (V_main_arg4 m c)
  funext z
  refine congrArg (V m c main_arg4) (funext fun a => Fin.ext ?_)
  match a with
  | ⟨0, _⟩ => show 0 * 1 + 1 * (z 0).val = (z 0).val; omega
  | ⟨1, _⟩ => show 0 * 256 + 1 * (z 1).val = (z 1).val; omega

theorem iblk5_eq (c : Dev nD) (t : Fin cfg0.N) : iblk m c 5 t = V m c main_v42 := by
  funext z
  refine congrArg (V m c main_v42) (funext fun a => Fin.ext ?_)
  match a with
  | ⟨0, _⟩ => show 0 * 1 + 1 * (z 0).val = (z 0).val; omega
  | ⟨1, _⟩ => show 0 * 3584 + 1 * (z 1).val = (z 1).val; omega

theorem emb6 (t : Fin cfg0.N) (z : S256x3584.Idx) : ((cfg0.win 6).blk t).view.emb z = z := by
  funext a; apply Fin.ext
  match a with
  | ⟨0, _⟩ => show 0 * 256 + 1 * (z 0).val = (z 0).val; omega
  | ⟨1, _⟩ => show 0 * 3584 + 1 * (z 1).val = (z 1).val; omega

/-- The result array as one function of the arguments. -/
def G (a0 : Vec Ideal S3584x7168 .i8) (a1 : Vec Ideal S3584x112 .i8) (a2 : Vec Ideal S14336x256 .fp8e4m3) (a3 a4 : Vec Ideal S1x256 .f32)
    (a5 : Vec Ideal S3584 .f32) : Vec Ideal S256x3584 .bf16 :=
  fun i => out (N := 3584) a0 a1 a2 a3 a4 (a5 (ix1 (i 1))) (i 0) (i 1)

/-- The result array of device `c`. -/
abbrev GA (c : Dev nD) : Vec Ideal S256x3584 .bf16 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed_eq (c : Dev nD) (t : Fin cfg0.N) :
    (dats m 0 c).flushed 6 t = ((cfg0.win 6).blk t).view.read (Elt Ideal) (GA m c) := by
  rw [flushed6, iblk0_eq, iblk1_eq, iblk2_eq, iblk3_eq, iblk4_eq, iblk5_eq, V_low, V_high]
  funext z
  show out0_6 _ _ _ _ _ _ z = GA m c (((cfg0.win 6).blk t).view.emb z)
  rw [emb6]
  obtain ⟨s, n, rfl⟩ : ∃ (s : Fin 256) (n : Fin 3584), z = (ix2 s n : S256x3584.Idx) := ⟨z 0, z 1, eq_ix2 z⟩
  refine (out_apply _ _ _ _ _ _ _ _ (lowArray_apply _ _) (highArray_apply _ _) s n).trans ?_
  rw [V_row]
  rfl

theorem covered (i : S256x3584.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

/-- The result array after the run. -/
theorem final (c : Dev nD) : (dats m 0 c).arrAt 6 cfg0.N = GA m c :=
  (dats m 0 c).arrAt_eq_of_cover 6 (GA m c) (fun t _ => flushed_eq m c t) covered

end Cert.ReferenceIdeal.Weights

end
-- ==== Proof.Equation.lean ====
/-
  THE EQUATION. The precondition read at an index says that no exponent exceeds 126; under it the kernel's result array is the
  specification's `out` of its arguments, as the reference's always is, so that equal arguments give equal results.
-/
module

public import proofs.«01_k».proof.Defs
public import proofs.«01_k».proof.Proof.Final
public import proofs.«01_k».proof.Proof.RefOut
public import Idealize.ShloMosaic.Lib.ReduceAll

@[expose] public section
noncomputable section
namespace Cert.Proof.Equation
open Idealize.ShloMosaic Idealize.ShloMosaic.TcCoe Idealize.SL.Sem

/-- The shape relations that the precondition's function states. -/
theorem preFacts : Cert.Pre_gexp_normal.Facts where
  bcast_S_S3584x112 := by decide
  reducesTo_S3584x112_S_d0_1 := by decide
  h_S_ := by decide

/-- The precondition's function is 1 only if every exponent is at most 126. -/
theorem exp_le [Cert.Pre_gexp_normal.Facts] (a0 : IVec Cert.Pre_gexp_normal.S3584x7168 8) (a1 : IVec Cert.Pre_gexp_normal.S3584x112 8)
    (a2 : FVec Ideal Cert.Pre_gexp_normal.S14336x256 .fp8e4m3) (a3 a4 : FVec Ideal Cert.Pre_gexp_normal.S1x256 .f32)
    (a5 : FVec Ideal Cert.Pre_gexp_normal.S3584 .f32) (j : Cert.Pre_gexp_normal.S_.Idx)
    (h : Cert.Pre_gexp_normal.fn (F := Ideal) a0 a1 a2 a3 a4 a5 j = 1#1) (i : Cert.Pre_gexp_normal.S3584x112.Idx) : (a1 i).toNat ≤ 126 := by
  have e : IntOp.cmpi .ule (a1 i) 126#8 = 1#1 := Host.reduce_andi_all _ _ _ _ j h i
  exact IntOp.cmpi_ule.1 e

theorem expOk [Cert.Pre_gexp_normal.Facts] (m : (ℓ : Loc Cert.KernelIdeal.nD Cert.KernelIdeal.τ Cert.KernelIdeal.sig) → Buf (Elt Ideal) ℓ)
    (h : Cert.Pre_KernelIdeal_gexp_normal m) : Cert.KernelIdeal.Block.ExpOk m :=
  fun c i => exp_le _ _ _ _ _ _ (fun a => a.elim0) (congrFun (h c) _) i

/-- Kernel and reference compute the same array of extended reals from equal arguments. -/
theorem algebraic [hPre : Cert.Pre_gexp_normal.Facts] :
    Cert.algebraic_KernelIdeal_ReferenceIdeal_pre_gexp_normal (hKernelIdeal := Cert.KernelIdeal.Gen.facts)
      (hReferenceIdeal := Cert.ReferenceIdeal.Gen.facts) (hPre_gexp_normal := hPre) := by
  intro m ρ m' ρ' hpre hag
  refine ⟨fun c => Cert.KernelIdeal.Block.GA m c, ?_, ?_⟩
  · exact (θ_run _ _ _).mono (fun _ h c => ⟨(h c).1.trans (Cert.KernelIdeal.Block.final m (expOk m hpre) c), (h c).2⟩)
      (Cert.KernelIdeal.Value.run_blocks m ρ)
  · refine (θ_run _ _ _).mono (fun _ h c => ⟨(h c).1.trans ((Cert.ReferenceIdeal.Weights.final m' c).trans ?_), (h c).2⟩)
      (Cert.ReferenceIdeal.Value.run_blocks m' ρ')
    obtain ⟨h0, h1, h2, h3, h4, h5⟩ := hag c
    show Cert.ReferenceIdeal.Weights.GA m' c = Cert.KernelIdeal.Block.GA m c
    unfold Cert.ReferenceIdeal.Weights.GA
    rw [h0, h1, h2, h3, h4, h5]
    rfl

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.RotKernel
public import proofs.«01_k».proof.Proof.Gen.RotKernel.Skeleton
public import proofs.«01_k».proof.Proof.Gen.RotKernel.Launch
public import proofs.«01_k».proof.Proof.Gen.RotKernel.Points
public import proofs.«01_k».proof.Proof.BitsRotFrame
public import proofs.«01_k».proof.Proof.Gen.RotKernelIdeal
public import proofs.«01_k».proof.Proof.Gen.RotKernelIdeal.Skeleton
public import proofs.«01_k».proof.Proof.Gen.RotKernelIdeal.Launch
public import proofs.«01_k».proof.Proof.Gen.RotKernelIdeal.Points
public import proofs.«01_k».proof.Proof.IdealRotFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All claims: the frames of the down-projection are the generated ones and those of the rotation are `BitsRotFrame` and
    `IdealRotFrame`; neither idealization rewrites anything; and the value claim is the equation. -/
theorem claim : Cert.Claim :=
  ⟨Cert.Kernel.Gen.facts, Cert.KernelIdeal.Gen.facts, Cert.ReferenceIdeal.Gen.facts, Cert.RotKernel.Gen.facts, Cert.RotKernelIdeal.Gen.facts,
    Equation.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.RotKernel.Gen.frame m ρ, fun m ρ _ => Cert.RotKernelIdeal.Gen.frame m ρ, trivial,
    Equation.algebraic (hPre := Equation.preFacts), trivial⟩

end Cert.Proof

end
